-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "scale" .f32 0x3DB504F3#32 (((Real.sqrt 128)⁻¹ : ℝ) : EReal)

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![8, 1024, 16, 128]⟩ ⟨4, ![8, 2048, 16, 128]⟩ (Layout.meshBlock [2, 2] ![[], [1], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![8, 1024, 16, 128]⟩ ⟨4, ![8, 2048, 16, 128]⟩ (Layout.meshBlock [2, 2] ![[], [1], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v19) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S8x8x16x128 : Shape := ⟨4, ![8, 8, 16, 128]⟩
abbrev S8x1024x16x128 : Shape := ⟨4, ![8, 1024, 16, 128]⟩
abbrev S_ : Shape := ⟨0, ![]⟩

class Facts : Prop where
  bcast_S_S8x8x16x128 : S_.BroadcastsInDim S8x8x16x128 (![] : Fin 0 → Fin S8x8x16x128.rank)
  reducesTo_S8x8x16x128_S_d0_1_2_3 : S8x8x16x128.ReducesTo [0, 1, 2, 3] S_
  h_S_ : 0 < S_.numel
  bcast_S_S8x1024x16x128 : S_.BroadcastsInDim S8x1024x16x128 (![] : Fin 0 → Fin S8x1024x16x128.rank)
  reducesTo_S8x1024x16x128_S_d0_1_2_3 : S8x1024x16x128.ReducesTo [0, 1, 2, 3] S_

variable [Facts]

def fn {F : FTy → Type} [FloatOps F] (main_arg0 : FVec F S8x8x16x128 .bf16) (main_arg1 : FVec F S8x1024x16x128 .bf16) (main_arg2 : FVec F S8x1024x16x128 .bf16) : IVec S_ 1 :=
  let main_v0 : FVec F S8x8x16x128 .bf16 := Host.absf main_arg0
  let main_cst : FVec F S_ .bf16 := constant S_ .bf16 0x7F80#16
  let main_v1 : FVec F S8x8x16x128 .bf16 := broadcastInDim S8x8x16x128 ![] bcast_S_S8x8x16x128 main_cst
  let main_v2 : IVec S8x8x16x128 1 := cmpf .olt main_v0 main_v1
  let main_c : IVec S_ 1 := constantI S_ 1 1#1
  let main_v3 : IVec S_ 1 := (fun x v => Host.reduce IntOp.andi x v reducesTo_S8x8x16x128_S_d0_1_2_3 h_S_) main_v2 main_c
  let main_v4 : FVec F S8x1024x16x128 .bf16 := Host.absf main_arg1
  let main_cst_0 : FVec F S_ .bf16 := constant S_ .bf16 0x7F80#16
  let main_v5 : FVec F S8x1024x16x128 .bf16 := broadcastInDim S8x1024x16x128 ![] bcast_S_S8x1024x16x128 main_cst_0
  let main_v6 : IVec S8x1024x16x128 1 := cmpf .olt main_v4 main_v5
  let main_c_1 : IVec S_ 1 := constantI S_ 1 1#1
  let main_v7 : IVec S_ 1 := (fun x v => Host.reduce IntOp.andi x v reducesTo_S8x1024x16x128_S_d0_1_2_3 h_S_) main_v6 main_c_1
  let main_v8 : IVec S_ 1 := andi main_v3 main_v7
  main_v8
-- ==== Pre_finite_scores_ReferenceIdeal.lean ====
abbrev S8x8x16x128 : Shape := ⟨4, ![8, 8, 16, 128]⟩
abbrev S8x2048x16x128 : Shape := ⟨4, ![8, 2048, 16, 128]⟩
abbrev S_ : Shape := ⟨0, ![]⟩

class Facts : Prop where
  bcast_S_S8x8x16x128 : S_.BroadcastsInDim S8x8x16x128 (![] : Fin 0 → Fin S8x8x16x128.rank)
  reducesTo_S8x8x16x128_S_d0_1_2_3 : S8x8x16x128.ReducesTo [0, 1, 2, 3] S_
  h_S_ : 0 < S_.numel
  bcast_S_S8x2048x16x128 : S_.BroadcastsInDim S8x2048x16x128 (![] : Fin 0 → Fin S8x2048x16x128.rank)
  reducesTo_S8x2048x16x128_S_d0_1_2_3 : S8x2048x16x128.ReducesTo [0, 1, 2, 3] S_

variable [Facts]

def fn {F : FTy → Type} [FloatOps F] (main_arg0 : FVec F S8x8x16x128 .bf16) (main_arg1 : FVec F S8x2048x16x128 .bf16) (main_arg2 : FVec F S8x2048x16x128 .bf16) : IVec S_ 1 :=
  let main_v0 : FVec F S8x8x16x128 .bf16 := Host.absf main_arg0
  let main_cst : FVec F S_ .bf16 := constant S_ .bf16 0x7F80#16
  let main_v1 : FVec F S8x8x16x128 .bf16 := broadcastInDim S8x8x16x128 ![] bcast_S_S8x8x16x128 main_cst
  let main_v2 : IVec S8x8x16x128 1 := cmpf .olt main_v0 main_v1
  let main_c : IVec S_ 1 := constantI S_ 1 1#1
  let main_v3 : IVec S_ 1 := (fun x v => Host.reduce IntOp.andi x v reducesTo_S8x8x16x128_S_d0_1_2_3 h_S_) main_v2 main_c
  let main_v4 : FVec F S8x2048x16x128 .bf16 := Host.absf main_arg1
  let main_cst_0 : FVec F S_ .bf16 := constant S_ .bf16 0x7F80#16
  let main_v5 : FVec F S8x2048x16x128 .bf16 := broadcastInDim S8x2048x16x128 ![] bcast_S_S8x2048x16x128 main_cst_0
  let main_v6 : IVec S8x2048x16x128 1 := cmpf .olt main_v4 main_v5
  let main_c_1 : IVec S_ 1 := constantI S_ 1 1#1
  let main_v7 : IVec S_ 1 := (fun x v => Host.reduce IntOp.andi x v reducesTo_S8x2048x16x128_S_d0_1_2_3 h_S_) main_v6 main_c_1
  let main_v8 : IVec S_ 1 := andi main_v3 main_v7
  main_v8
-- ==== Kernel.lean ====
abbrev S8x8x16x128 : Shape := ⟨4, ![8, 8, 16, 128]⟩
abbrev S8x1024x16x128 : Shape := ⟨4, ![8, 1024, 16, 128]⟩
abbrev S_ : Shape := ⟨0, ![]⟩
abbrev S1 : Shape := ⟨1, ![1]⟩
abbrev S1x8x8x128 : Shape := ⟨4, ![1, 8, 8, 128]⟩
abbrev S1x1024x8x128 : Shape := ⟨4, ![1, 1024, 8, 128]⟩
abbrev S8x8x8x128 : Shape := ⟨4, ![8, 8, 8, 128]⟩
abbrev S8x2x8x8 : Shape := ⟨4, ![8, 2, 8, 8]⟩
abbrev S3x8 : Shape := ⟨2, ![3, 8]⟩
abbrev S8x8x128 : Shape := ⟨3, ![8, 8, 128]⟩
abbrev S1024x8x128 : Shape := ⟨3, ![1024, 8, 128]⟩
abbrev S8x1024x128 : Shape := ⟨3, ![8, 1024, 128]⟩
abbrev S8x8x1024 : Shape := ⟨3, ![8, 8, 1024]⟩
abbrev S8x8 : Shape := ⟨2, ![8, 8]⟩
abbrev S8x8x1 : Shape := ⟨3, ![8, 8, 1]⟩
abbrev S1x1x8x8 : Shape := ⟨4, ![1, 1, 8, 8]⟩
abbrev S1x1 : Shape := ⟨2, ![1, 1]⟩
abbrev S1x2x8x8 : Shape := ⟨4, ![1, 2, 8, 8]⟩
abbrev S2x8x8 : Shape := ⟨3, ![2, 8, 8]⟩

abbrev nBuf : Space → Nat
  | .hbm => 10
  | .vmem => 15
  | .smem => 1
  | _ => 0

abbrev bufTy : (tb : Table) → Fin (tcTables nBuf tb) → BufTy
  | .hbm, ⟨0, _⟩ => ⟨S8x8x16x128, .bf16⟩
  | .hbm, ⟨1, _⟩ => ⟨S8x1024x16x128, .bf16⟩
  | .hbm, ⟨2, _⟩ => ⟨S8x1024x16x128, .bf16⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S8x8x16x128, .f32⟩
  | .local _ .vmem, ⟨0, _⟩ => ⟨S1x8x8x128, .bf16⟩
  | .local _ .vmem, ⟨1, _⟩ => ⟨S1x8x8x128, .bf16⟩
  | .local _ .vmem, ⟨2, _⟩ => ⟨S1x1024x8x128, .bf16⟩
  | .local _ .vmem, ⟨3, _⟩ => ⟨S1x1024x8x128, .bf16⟩
  | .local _ .vmem, ⟨4, _⟩ => ⟨S1x1024x8x128, .bf16⟩
  | .local _ .vmem, ⟨5, _⟩ => ⟨S1x1024x8x128, .bf16⟩
  | .local _ .vmem, ⟨6, _⟩ => ⟨S8x8x16x128, .f32⟩
  | .local _ .vmem, ⟨7, _⟩ => ⟨S8x8x8x128, .bf16⟩
  | .local _ .vmem, ⟨8, _⟩ => ⟨S8x2x8x8, .f32⟩
  | .local _ .vmem, ⟨9, _⟩ => ⟨S8x8x8x128, .bf16⟩
  | .local _ .vmem, ⟨10, _⟩ => ⟨S8x2x8x8, .f32⟩
  | .local _ .vmem, ⟨11, _⟩ => ⟨S8x8x8x128, .bf16⟩
  | .local _ .vmem, ⟨12, _⟩ => ⟨S8x2x8x8, .f32⟩
  | .local _ .vmem, ⟨13, _⟩ => ⟨S8x8x8x128, .bf16⟩
  | .local _ .vmem, ⟨14, _⟩ => ⟨S8x2x8x8, .f32⟩
  | .local _ .smem, ⟨0, _⟩ => ⟨S1, .i32⟩
  | _, _ => ⟨S8x8x16x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 1 → Bool
  | ⟨0, _⟩ => false
  | _ => false

abbrev dmaSemScoped : Fin 103 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | _ => false

abbrev sig : RefSig :=
  (ofTc nBuf bufTy 1 103 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v6 : Ref sig .tc := ⟨.hbm, 9, rfl⟩
abbrev main_v5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_scratch6 : Ref sig .tc := ⟨.vmem, 13, rfl⟩
abbrev cc0_scratch7 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev barrier0 : Sem sig := 0

abbrev nD : Nat := 4
abbrev τ : Topo := Topo.v7x

variable {F : FTy → Type} [FloatOps F]

abbrev grid0 : Pipeline.Grid := ⟨1, ![8], ![false]⟩

abbrev pre0 : Pipeline.Prefetch sig := ⟨1, ![main_v5.idx], fun | 0 => main_v5.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v10 : BitVec 1 := Scalar.cmpi .eq arg0 c0_i32
  let v11 : BitVec 32 := Scalar.extui v10
  let c0_i32_6 : BitVec 32 := 0#32
  let v12 : BitVec 1 := Scalar.cmpi .ne v11 c0_i32_6
  v12

def k0_dev1 (d0 : Dev nD) : Nat :=
  let c0_i32_103 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_102 : BitVec 32 := 2#32
  let v131 : BitVec 32 := Scalar.muli v2 c2_i32_102
  let v132 : BitVec 32 := Scalar.addi c0_i32_103 v131
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_104 : BitVec 32 := 1#32
  let v133 : BitVec 32 := Scalar.muli v6 c1_i32_104
  let v134 : BitVec 32 := Scalar.addi v132 v133
  v134.toNat
def k0_dev2 (d0 : Dev nD) : Nat :=
  let c0_i32_107 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_106 : BitVec 32 := 2#32
  let v135 : BitVec 32 := Scalar.muli v7 c2_i32_106
  let v136 : BitVec 32 := Scalar.addi c0_i32_107 v135
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_108 : BitVec 32 := 1#32
  let v137 : BitVec 32 := Scalar.muli v5 c1_i32_108
  let v138 : BitVec 32 := Scalar.addi v136 v137
  v138.toNat
def k0_dev3 (d0 : Dev nD) : Nat :=
  let c0_i32_111 : BitVec 32 := 0#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let c2_i32_110 : BitVec 32 := 2#32
  let v139 : BitVec 32 := Scalar.muli v8 c2_i32_110
  let v140 : BitVec 32 := Scalar.addi c0_i32_111 v139
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_5 v5
  let c1_i32_112 : BitVec 32 := 1#32
  let v141 : BitVec 32 := Scalar.muli v9 c1_i32_112
  let v142 : BitVec 32 := Scalar.addi v140 v141
  v142.toNat
def k0_off1 (i : grid0.Coords) : Fin 4 → Nat :=
  let arg0 : BitVec 32 := BitVec.ofNat 32 (i 0).val
  let v35 : Index := Scalar.indexCast arg0
  let c0_22 : Index := 0#32
  let c0_23 : Index := 0#32
  let c0_24 : Index := 0#32
  ![v35.toNat, 0, 0, 0]
def k0_off2 (i : grid0.Coords) : Fin 4 → Nat :=
  let arg0 : BitVec 32 := BitVec.ofNat 32 (i 0).val
  let v40 : Index := Scalar.indexCast arg0
  let c0_25 : Index := 0#32
  let c0_26 : Index := 0#32
  let c0_27 : Index := 0#32
  ![v40.toNat, 0, 0, 0]
def k0_off3 (i : grid0.Coords) : Fin 4 → Nat :=
  let arg0 : BitVec 32 := BitVec.ofNat 32 (i 0).val
  let v45 : Index := Scalar.indexCast arg0
  let c1 : Index := 1#32
  let c0_28 : Index := 0#32
  let c0_29 : Index := 0#32
  ![v45.toNat, 1, 0, 0]
def k0_off4 (i : grid0.Coords) : Fin 2 → Nat :=
  let c0_i32_33 : BitVec 32 := 0#32
  let arg0 : BitVec 32 := BitVec.ofNat 32 (i 0).val
  ![0, arg0.toNat]
def k0_off5 (i : grid0.Coords) : Fin 4 → Nat :=
  let arg0 : BitVec 32 := BitVec.ofNat 32 (i 0).val
  let c0_i32_37 : BitVec 32 := 0#32
  let c0_i32_38 : BitVec 32 := 0#32
  let c0_i32_39 : BitVec 32 := 0#32
  ![arg0.toNat, 0, 0, 0]
def k0_dev4 (d0 : Dev nD) : Nat :=
  let c0_i32_35 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_34 : BitVec 32 := 2#32
  let v52 : BitVec 32 := Scalar.muli v2 c2_i32_34
  let v53 : BitVec 32 := Scalar.addi c0_i32_35 v52
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_36 : BitVec 32 := 1#32
  let v54 : BitVec 32 := Scalar.muli v6 c1_i32_36
  let v55 : BitVec 32 := Scalar.addi v53 v54
  v55.toNat
def k0_off6 (i : grid0.Coords) : Fin 4 → Nat :=
  let arg0 : BitVec 32 := BitVec.ofNat 32 (i 0).val
  let c0_i32_48 : BitVec 32 := 0#32
  let c0_i32_49 : BitVec 32 := 0#32
  let c0_i32_50 : BitVec 32 := 0#32
  ![arg0.toNat, 0, 0, 0]
def k0_dev5 (d0 : Dev nD) : Nat :=
  let c0_i32_46 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_45 : BitVec 32 := 2#32
  let v64 : BitVec 32 := Scalar.muli v2 c2_i32_45
  let v65 : BitVec 32 := Scalar.addi c0_i32_46 v64
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_47 : BitVec 32 := 1#32
  let v66 : BitVec 32 := Scalar.muli v6 c1_i32_47
  let v67 : BitVec 32 := Scalar.addi v65 v66
  v67.toNat
def k0_off7 (i : grid0.Coords) : Fin 2 → Nat :=
  let c1_i32_55 : BitVec 32 := 1#32
  let arg0 : BitVec 32 := BitVec.ofNat 32 (i 0).val
  ![1, arg0.toNat]
def k0_dev6 (d0 : Dev nD) : Nat :=
  let c0_i32_57 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_56 : BitVec 32 := 2#32
  let v76 : BitVec 32 := Scalar.muli v7 c2_i32_56
  let v77 : BitVec 32 := Scalar.addi c0_i32_57 v76
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_58 : BitVec 32 := 1#32
  let v78 : BitVec 32 := Scalar.muli v5 c1_i32_58
  let v79 : BitVec 32 := Scalar.addi v77 v78
  v79.toNat
def k0_dev7 (d0 : Dev nD) : Nat :=
  let c0_i32_68 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_67 : BitVec 32 := 2#32
  let v88 : BitVec 32 := Scalar.muli v7 c2_i32_67
  let v89 : BitVec 32 := Scalar.addi c0_i32_68 v88
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_69 : BitVec 32 := 1#32
  let v90 : BitVec 32 := Scalar.muli v5 c1_i32_69
  let v91 : BitVec 32 := Scalar.addi v89 v90
  v91.toNat
def k0_off8 (i : grid0.Coords) : Fin 2 → Nat :=
  let c2_i32_77 : BitVec 32 := 2#32
  let arg0 : BitVec 32 := BitVec.ofNat 32 (i 0).val
  ![2, arg0.toNat]
def k0_dev8 (d0 : Dev nD) : Nat :=
  let c0_i32_79 : BitVec 32 := 0#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let c2_i32_78 : BitVec 32 := 2#32
  let v100 : BitVec 32 := Scalar.muli v8 c2_i32_78
  let v101 : BitVec 32 := Scalar.addi c0_i32_79 v100
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_5 v5
  let c1_i32_80 : BitVec 32 := 1#32
  let v102 : BitVec 32 := Scalar.muli v9 c1_i32_80
  let v103 : BitVec 32 := Scalar.addi v101 v102
  v103.toNat
def k0_dev9 (d0 : Dev nD) : Nat :=
  let c0_i32_90 : BitVec 32 := 0#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let c2_i32_89 : BitVec 32 := 2#32
  let v112 : BitVec 32 := Scalar.muli v8 c2_i32_89
  let v113 : BitVec 32 := Scalar.addi c0_i32_90 v112
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_5 v5
  let c1_i32_91 : BitVec 32 := 1#32
  let v114 : BitVec 32 := Scalar.muli v9 c1_i32_91
  let v115 : BitVec 32 := Scalar.addi v113 v114
  v115.toNat
def k0_cond3 (i : grid0.Coords) : BitVec 1 :=
  let arg0 : BitVec 32 := BitVec.ofNat 32 (i 0).val
  let c1_i32_98 : BitVec 32 := 1#32
  let v124 : BitVec 1 := Scalar.cmpi .sgt arg0 c1_i32_98
  let v125 : BitVec 32 := Scalar.extui v124
  let c0_i32_99 : BitVec 32 := 0#32
  let v126 : BitVec 1 := Scalar.cmpi .ne v125 c0_i32_99
  v126

def k0_off9 (i : grid0.Coords) : Fin 2 → Nat :=
  let c0_i32_102 : BitVec 32 := 0#32
  let arg0 : BitVec 32 := BitVec.ofNat 32 (i 0).val
  let c2_i32_101 : BitVec 32 := 2#32
  let v130 : BitVec 32 := Scalar.subi arg0 c2_i32_101
  ![0, v130.toNat]
def k0_off10 (i : grid0.Coords) : Fin 4 → Nat :=
  let arg0 : BitVec 32 := BitVec.ofNat 32 (i 0).val
  let c2_i32_101 : BitVec 32 := 2#32
  let v130 : BitVec 32 := Scalar.subi arg0 c2_i32_101
  let c0_i32_105 : BitVec 32 := 0#32
  let c0_i32_106 : BitVec 32 := 0#32
  let c0_i32_107 : BitVec 32 := 0#32
  ![v130.toNat, 0, 0, 0]
def k0_off11 (i : grid0.Coords) : Fin 4 → Nat :=
  let arg0 : BitVec 32 := BitVec.ofNat 32 (i 0).val
  let c2_i32_101 : BitVec 32 := 2#32
  let v130 : BitVec 32 := Scalar.subi arg0 c2_i32_101
  let c0_i32_125 : BitVec 32 := 0#32
  let c0_i32_126 : BitVec 32 := 0#32
  let c0_i32_127 : BitVec 32 := 0#32
  ![v130.toNat, 0, 0, 0]
def k0_off12 (i : grid0.Coords) : Fin 2 → Nat :=
  let c1_i32_142 : BitVec 32 := 1#32
  let arg0 : BitVec 32 := BitVec.ofNat 32 (i 0).val
  let c2_i32_101 : BitVec 32 := 2#32
  let v130 : BitVec 32 := Scalar.subi arg0 c2_i32_101
  ![1, v130.toNat]
def k0_off13 (i : grid0.Coords) : Fin 2 → Nat :=
  let c2_i32_182 : BitVec 32 := 2#32
  let arg0 : BitVec 32 := BitVec.ofNat 32 (i 0).val
  let c2_i32_101 : BitVec 32 := 2#32
  let v130 : BitVec 32 := Scalar.subi arg0 c2_i32_101
  ![2, v130.toNat]
def k0_off14 (i : grid0.Coords) : Fin 4 → Nat :=
  let arg0 : BitVec 32 := BitVec.ofNat 32 (i 0).val
  let c2_i32_101 : BitVec 32 := 2#32
  let v130 : BitVec 32 := Scalar.subi arg0 c2_i32_101
  let v227 : Index := Scalar.indexCast v130
  let c0_222 : Index := 0#32
  let c0_223 : Index := 0#32
  let c0_224 : Index := 0#32
  ![v227.toNat, 0, 0, 0]
def k0_off15 (i : grid0.Coords) : Fin 4 → Nat :=
  let arg0 : BitVec 32 := BitVec.ofNat 32 (i 0).val
  let c2_i32_101 : BitVec 32 := 2#32
  let v130 : BitVec 32 := Scalar.subi arg0 c2_i32_101
  let v230 : Index := Scalar.indexCast v130
  let c0_225 : Index := 0#32
  let c0_226 : Index := 0#32
  let c0_227 : Index := 0#32
  ![v230.toNat, 0, 0, 0]
def k0_off16 (i : grid0.Coords) : Fin 4 → Nat :=
  let arg0 : BitVec 32 := BitVec.ofNat 32 (i 0).val
  let c2_i32_101 : BitVec 32 := 2#32
  let v130 : BitVec 32 := Scalar.subi arg0 c2_i32_101
  let v233 : Index := Scalar.indexCast v130
  let c1_228 : Index := 1#32
  let c0_229 : Index := 0#32
  let c0_230 : Index := 0#32
  ![v233.toNat, 1, 0, 0]
def k0_off17 (i : grid0.Coords) (d0 : Dev nD) : Fin 4 → Nat :=
  let c4_i32 : BitVec 32 := 4#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v245 : BitVec 32 := Scalar.muli c4_i32 v2
  let arg0 : BitVec 32 := BitVec.ofNat 32 (i 0).val
  let c2_i32_101 : BitVec 32 := 2#32
  let v130 : BitVec 32 := Scalar.subi arg0 c2_i32_101
  let c0_i32_241 : BitVec 32 := 0#32
  let v247 : BitVec 1 := Scalar.cmpi .sgt v130 c0_i32_241
  let v248 : BitVec 32 := Scalar.extui v247
  let c0_i32_242 : BitVec 32 := 0#32
  let v249 : BitVec 1 := Scalar.cmpi .slt v130 c0_i32_242
  let v250 : BitVec 32 := Scalar.extui v249
  let v251 : BitVec 32 := Scalar.subi v248 v250
  let c2_i32_240 : BitVec 32 := 2#32
  let c0_i32_243 : BitVec 32 := 0#32
  let v252 : BitVec 1 := Scalar.cmpi .sgt c2_i32_240 c0_i32_243
  let v253 : BitVec 32 := Scalar.extui v252
  let c0_i32_244 : BitVec 32 := 0#32
  let v254 : BitVec 1 := Scalar.cmpi .slt c2_i32_240 c0_i32_244
  let v255 : BitVec 32 := Scalar.extui v254
  let v256 : BitVec 32 := Scalar.subi v253 v255
  let v257 : BitVec 1 := Scalar.cmpi .ne v251 v256
  let v258 : BitVec 32 := Scalar.remsi v130 c2_i32_240
  let c0_i32_245 : BitVec 32 := 0#32
  let v259 : BitVec 1 := Scalar.cmpi .ne v258 c0_i32_245
  let v260 : BitVec 1 := Scalar.andi v257 v259
  let v246 : BitVec 32 := Scalar.divsi v130 c2_i32_240
  let c1_i32_246 : BitVec 32 := 1#32
  let v261 : BitVec 32 := Scalar.subi v246 c1_i32_246
  let v262 : BitVec 32 := Scalar.select v260 v261 v246
  let v263 : BitVec 32 := Scalar.addi v245 v262
  let v296 : Index := Scalar.indexCast v263
  let c0_253 : Index := 0#32
  let c8_i32 : BitVec 32 := 8#32
  let c2_i32_247 : BitVec 32 := 2#32
  let c0_i32_248 : BitVec 32 := 0#32
  let v285 : BitVec 1 := Scalar.cmpi .eq c2_i32_247 c0_i32_248
  let c1_i32_249 : BitVec 32 := 1#32
  let v286 : BitVec 32 := Scalar.select v285 c1_i32_249 c2_i32_247
  let v287 : BitVec 32 := Scalar.remsi v130 v286
  let c0_i32_251 : BitVec 32 := 0#32
  let v289 : BitVec 1 := Scalar.cmpi .slt v287 c0_i32_251
  let c0_i32_252 : BitVec 32 := 0#32
  let v290 : BitVec 1 := Scalar.cmpi .slt v286 c0_i32_252
  let v291 : BitVec 1 := Scalar.xori v289 v290
  let c0_i32_250 : BitVec 32 := 0#32
  let v288 : BitVec 1 := Scalar.cmpi .ne v287 c0_i32_250
  let v292 : BitVec 1 := Scalar.andi v291 v288
  let v293 : BitVec 32 := Scalar.addi v287 v286
  let v294 : BitVec 32 := Scalar.select v292 v293 v287
  let v295 : BitVec 32 := Scalar.muli c8_i32 v294
  let v297 : Index := Scalar.indexCast v295
  let c0_254 : Index := 0#32
  ![v296.toNat, 0, v297.toNat, 0]
def k0_off18 (i : grid0.Coords) (d0 : Dev nD) : Fin 4 → Nat :=
  let c4_i32_274 : BitVec 32 := 4#32
  let c1_i32_273 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v319 : BitVec 32 := Scalar.subi c1_i32_273 v2
  let v320 : BitVec 32 := Scalar.muli c4_i32_274 v319
  let arg0 : BitVec 32 := BitVec.ofNat 32 (i 0).val
  let c2_i32_101 : BitVec 32 := 2#32
  let v130 : BitVec 32 := Scalar.subi arg0 c2_i32_101
  let c0_i32_276 : BitVec 32 := 0#32
  let v322 : BitVec 1 := Scalar.cmpi .sgt v130 c0_i32_276
  let v323 : BitVec 32 := Scalar.extui v322
  let c0_i32_277 : BitVec 32 := 0#32
  let v324 : BitVec 1 := Scalar.cmpi .slt v130 c0_i32_277
  let v325 : BitVec 32 := Scalar.extui v324
  let v326 : BitVec 32 := Scalar.subi v323 v325
  let c2_i32_275 : BitVec 32 := 2#32
  let c0_i32_278 : BitVec 32 := 0#32
  let v327 : BitVec 1 := Scalar.cmpi .sgt c2_i32_275 c0_i32_278
  let v328 : BitVec 32 := Scalar.extui v327
  let c0_i32_279 : BitVec 32 := 0#32
  let v329 : BitVec 1 := Scalar.cmpi .slt c2_i32_275 c0_i32_279
  let v330 : BitVec 32 := Scalar.extui v329
  let v331 : BitVec 32 := Scalar.subi v328 v330
  let v332 : BitVec 1 := Scalar.cmpi .ne v326 v331
  let v333 : BitVec 32 := Scalar.remsi v130 c2_i32_275
  let c0_i32_280 : BitVec 32 := 0#32
  let v334 : BitVec 1 := Scalar.cmpi .ne v333 c0_i32_280
  let v335 : BitVec 1 := Scalar.andi v332 v334
  let v321 : BitVec 32 := Scalar.divsi v130 c2_i32_275
  let c1_i32_281 : BitVec 32 := 1#32
  let v336 : BitVec 32 := Scalar.subi v321 c1_i32_281
  let v337 : BitVec 32 := Scalar.select v335 v336 v321
  let v338 : BitVec 32 := Scalar.addi v320 v337
  let v371 : Index := Scalar.indexCast v338
  let c0_289 : Index := 0#32
  let c8_i32_288 : BitVec 32 := 8#32
  let c2_i32_282 : BitVec 32 := 2#32
  let c0_i32_283 : BitVec 32 := 0#32
  let v360 : BitVec 1 := Scalar.cmpi .eq c2_i32_282 c0_i32_283
  let c1_i32_284 : BitVec 32 := 1#32
  let v361 : BitVec 32 := Scalar.select v360 c1_i32_284 c2_i32_282
  let v362 : BitVec 32 := Scalar.remsi v130 v361
  let c0_i32_286 : BitVec 32 := 0#32
  let v364 : BitVec 1 := Scalar.cmpi .slt v362 c0_i32_286
  let c0_i32_287 : BitVec 32 := 0#32
  let v365 : BitVec 1 := Scalar.cmpi .slt v361 c0_i32_287
  let v366 : BitVec 1 := Scalar.xori v364 v365
  let c0_i32_285 : BitVec 32 := 0#32
  let v363 : BitVec 1 := Scalar.cmpi .ne v362 c0_i32_285
  let v367 : BitVec 1 := Scalar.andi v366 v363
  let v368 : BitVec 32 := Scalar.addi v362 v361
  let v369 : BitVec 32 := Scalar.select v367 v368 v362
  let v370 : BitVec 32 := Scalar.muli c8_i32_288 v369
  let v372 : Index := Scalar.indexCast v370
  let c0_290 : Index := 0#32
  ![v371.toNat, 0, v372.toNat, 0]
def k0_cond4 (i : grid0.Coords) : BitVec 1 :=
  let arg0 : BitVec 32 := BitVec.ofNat 32 (i 0).val
  let c7_i32 : BitVec 32 := 7#32
  let v127 : BitVec 1 := Scalar.cmpi .eq arg0 c7_i32
  let v128 : BitVec 32 := Scalar.extui v127
  let c0_i32_100 : BitVec 32 := 0#32
  let v129 : BitVec 1 := Scalar.cmpi .ne v128 c0_i32_100
  v129

def k0_off19 (d0 : Dev nD) : Fin 4 → Nat :=
  let c4_i32 : BitVec 32 := 4#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v238 : BitVec 32 := Scalar.muli c4_i32 v2
  let c3_i32 : BitVec 32 := 3#32
  let v239 : BitVec 32 := Scalar.addi v238 c3_i32
  let v261 : Index := Scalar.indexCast v239
  let c0_291 : Index := 0#32
  let c0_292 : Index := 0#32
  let c0_293 : Index := 0#32
  ![v261.toNat, 0, 0, 0]
def k0_off20 (d0 : Dev nD) : Fin 4 → Nat :=
  let c4_i32_319 : BitVec 32 := 4#32
  let c1_i32_318 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v277 : BitVec 32 := Scalar.subi c1_i32_318 v2
  let v278 : BitVec 32 := Scalar.muli c4_i32_319 v277
  let c3_i32_320 : BitVec 32 := 3#32
  let v279 : BitVec 32 := Scalar.addi v278 c3_i32_320
  let v301 : Index := Scalar.indexCast v279
  let c0_321 : Index := 0#32
  let c0_322 : Index := 0#32
  let c0_323 : Index := 0#32
  ![v301.toNat, 0, 0, 0]
def k0_off21 (d0 : Dev nD) : Fin 4 → Nat :=
  let c4_i32_515 : BitVec 32 := 4#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v413 : BitVec 32 := Scalar.muli c4_i32_515 v2
  let c3_i32_516 : BitVec 32 := 3#32
  let v414 : BitVec 32 := Scalar.addi v413 c3_i32_516
  let v436 : Index := Scalar.indexCast v414
  let c0_517 : Index := 0#32
  let c8 : Index := 8#32
  let c0_518 : Index := 0#32
  ![v436.toNat, 0, 8, 0]
def k0_off22 (d0 : Dev nD) : Fin 4 → Nat :=
  let c4_i32_544 : BitVec 32 := 4#32
  let c1_i32_543 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v452 : BitVec 32 := Scalar.subi c1_i32_543 v2
  let v453 : BitVec 32 := Scalar.muli c4_i32_544 v452
  let c3_i32_545 : BitVec 32 := 3#32
  let v454 : BitVec 32 := Scalar.addi v453 c3_i32_545
  let v476 : Index := Scalar.indexCast v454
  let c0_546 : Index := 0#32
  let c8_547 : Index := 8#32
  let c0_548 : Index := 0#32
  ![v476.toNat, 0, 8, 0]
def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 0 (Rect.unit (s := S1) ![0] S1.size inb_S1_S1_0) numel1_S1
  let c4_i32 : BitVec 32 := 4#32
  let v1 : BitVec 32 := Scalar.muli c4_i32 v0
  let c2_i32 : BitVec 32 := 2#32
  let v2 : BitVec 32 := Scalar.divsi arg0 c2_i32
  let c0_i32 : BitVec 32 := 0#32
  let v3 : BitVec 1 := Scalar.cmpi .sgt arg0 c0_i32
  let v4 : BitVec 32 := Scalar.extui v3
  let c0_i32_0 : BitVec 32 := 0#32
  let v5 : BitVec 1 := Scalar.cmpi .slt arg0 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi arg0 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let v19 : BitVec 32 := Scalar.addi v1 v18
  let c2_i32_4 : BitVec 32 := 2#32
  let c0_i32_5 : BitVec 32 := 0#32
  let v20 : BitVec 1 := Scalar.cmpi .eq c2_i32_4 c0_i32_5
  let c1_i32_6 : BitVec 32 := 1#32
  let v21 : BitVec 32 := Scalar.select v20 c1_i32_6 c2_i32_4
  let v22 : BitVec 32 := Scalar.remsi arg0 v21
  let c0_i32_7 : BitVec 32 := 0#32
  let v23 : BitVec 1 := Scalar.cmpi .ne v22 c0_i32_7
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let v27 : BitVec 1 := Scalar.andi v26 v23
  let v28 : BitVec 32 := Scalar.addi v22 v21
  let v29 : BitVec 32 := Scalar.select v27 v28 v22
  let c0_i32_10 : BitVec 32 := 0#32
  let c0_i32_11 : BitVec 32 := 0#32
  let c0_i32_12 : BitVec 32 := 0#32
  ![v19.toNat, c0_i32_10.toNat, v29.toNat, c0_i32_11.toNat]

def cc0_transform_1 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 0 (Rect.unit (s := S1) ![0] S1.size inb_S1_S1_0) numel1_S1
  let c4_i32 : BitVec 32 := 4#32
  let v1 : BitVec 32 := Scalar.muli c4_i32 v0
  let c2_i32 : BitVec 32 := 2#32
  let v2 : BitVec 32 := Scalar.divsi arg0 c2_i32
  let c0_i32 : BitVec 32 := 0#32
  let v3 : BitVec 1 := Scalar.cmpi .sgt arg0 c0_i32
  let v4 : BitVec 32 := Scalar.extui v3
  let c0_i32_0 : BitVec 32 := 0#32
  let v5 : BitVec 1 := Scalar.cmpi .slt arg0 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi arg0 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let v19 : BitVec 32 := Scalar.addi v1 v18
  let c2_i32_4 : BitVec 32 := 2#32
  let c0_i32_5 : BitVec 32 := 0#32
  let v20 : BitVec 1 := Scalar.cmpi .eq c2_i32_4 c0_i32_5
  let c1_i32_6 : BitVec 32 := 1#32
  let v21 : BitVec 32 := Scalar.select v20 c1_i32_6 c2_i32_4
  let v22 : BitVec 32 := Scalar.remsi arg0 v21
  let c0_i32_7 : BitVec 32 := 0#32
  let v23 : BitVec 1 := Scalar.cmpi .ne v22 c0_i32_7
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let v27 : BitVec 1 := Scalar.andi v26 v23
  let v28 : BitVec 32 := Scalar.addi v22 v21
  let v29 : BitVec 32 := Scalar.select v27 v28 v22
  let c0_i32_10 : BitVec 32 := 0#32
  let c0_i32_11 : BitVec 32 := 0#32
  let c0_i32_12 : BitVec 32 := 0#32
  ![v19.toNat, c0_i32_10.toNat, v29.toNat, c0_i32_11.toNat]

def cc0_transform_2 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 0 (Rect.unit (s := S1) ![0] S1.size inb_S1_S1_0) numel1_S1
  let c4_i32 : BitVec 32 := 4#32
  let v1 : BitVec 32 := Scalar.muli c4_i32 v0
  let c2_i32 : BitVec 32 := 2#32
  let v2 : BitVec 32 := Scalar.divsi arg0 c2_i32
  let c0_i32 : BitVec 32 := 0#32
  let v3 : BitVec 1 := Scalar.cmpi .sgt arg0 c0_i32
  let v4 : BitVec 32 := Scalar.extui v3
  let c0_i32_0 : BitVec 32 := 0#32
  let v5 : BitVec 1 := Scalar.cmpi .slt arg0 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi arg0 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let v19 : BitVec 32 := Scalar.addi v1 v18
  let c2_i32_4 : BitVec 32 := 2#32
  let c0_i32_5 : BitVec 32 := 0#32
  let v20 : BitVec 1 := Scalar.cmpi .eq c2_i32_4 c0_i32_5
  let c1_i32_6 : BitVec 32 := 1#32
  let v21 : BitVec 32 := Scalar.select v20 c1_i32_6 c2_i32_4
  let v22 : BitVec 32 := Scalar.remsi arg0 v21
  let c0_i32_7 : BitVec 32 := 0#32
  let v23 : BitVec 1 := Scalar.cmpi .ne v22 c0_i32_7
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let v27 : BitVec 1 := Scalar.andi v26 v23
  let v28 : BitVec 32 := Scalar.addi v22 v21
  let v29 : BitVec 32 := Scalar.select v27 v28 v22
  let c0_i32_10 : BitVec 32 := 0#32
  let c0_i32_11 : BitVec 32 := 0#32
  let c0_i32_12 : BitVec 32 := 0#32
  ![v19.toNat, c0_i32_10.toNat, v29.toNat, c0_i32_11.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S1x8x8x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x8x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x8x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x8x16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== KernelIdeal.lean ====
variable {F : FTy → Type} [FloatOps F] [Named F]
def κ : String → Option EReal := fun
  | "scale" => some (((Real.sqrt 128)⁻¹ : ℝ) : EReal)
  | _ => none
-- ==== ReferenceIdeal.lean ====
abbrev S8x8x16x128 : Shape := ⟨4, ![8, 8, 16, 128]⟩
abbrev S8x2048x16x128 : Shape := ⟨4, ![8, 2048, 16, 128]⟩
abbrev S_ : Shape := ⟨0, ![]⟩
abbrev S8x16x8x2048 : Shape := ⟨4, ![8, 16, 8, 2048]⟩
abbrev S8x16x8 : Shape := ⟨3, ![8, 16, 8]⟩
abbrev S8x16x8x1 : Shape := ⟨4, ![8, 16, 8, 1]⟩
abbrev S8x16x128x8 : Shape := ⟨4, ![8, 16, 128, 8]⟩

abbrev nBuf : Space → Nat
  | .hbm => 27
  | .vmem => 0
  | .smem => 0
  | _ => 0

abbrev bufTy : (tb : Table) → Fin (tcTables nBuf tb) → BufTy
  | .hbm, ⟨0, _⟩ => ⟨S8x8x16x128, .bf16⟩
  | .hbm, ⟨1, _⟩ => ⟨S8x2048x16x128, .bf16⟩
  | .hbm, ⟨2, _⟩ => ⟨S8x2048x16x128, .bf16⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S8x8x16x128, .f32⟩
  | .hbm, ⟨8, _⟩ => ⟨S8x2048x16x128, .f32⟩
  | .hbm, ⟨9, _⟩ => ⟨S8x2048x16x128, .f32⟩
  | .hbm, ⟨10, _⟩ => ⟨S8x16x8x2048, .f32⟩
  | .hbm, ⟨11, _⟩ => ⟨S_, .f32⟩
  | .hbm, ⟨12, _⟩ => ⟨S8x16x8x2048, .f32⟩
  | .hbm, ⟨13, _⟩ => ⟨S8x16x8x2048, .f32⟩
  | .hbm, ⟨14, _⟩ => ⟨S_, .f32⟩
  | .hbm, ⟨15, _⟩ => ⟨S8x16x8, .f32⟩
  | .hbm, ⟨16, _⟩ => ⟨S8x16x8x1, .f32⟩
  | .hbm, ⟨17, _⟩ => ⟨S8x16x8x2048, .f32⟩
  | .hbm, ⟨18, _⟩ => ⟨S8x16x8x2048, .f32⟩
  | .hbm, ⟨19, _⟩ => ⟨S8x16x8x2048, .f32⟩
  | .hbm, ⟨20, _⟩ => ⟨S_, .f32⟩
  | .hbm, ⟨21, _⟩ => ⟨S8x16x8, .f32⟩
  | .hbm, ⟨22, _⟩ => ⟨S8x16x8x1, .f32⟩
  | .hbm, ⟨23, _⟩ => ⟨S8x16x8x2048, .f32⟩
  | .hbm, ⟨24, _⟩ => ⟨S8x16x8x2048, .f32⟩
  | .hbm, ⟨25, _⟩ => ⟨S8x16x128x8, .f32⟩
  | .hbm, ⟨26, _⟩ => ⟨S8x8x16x128, .f32⟩
  | _, _ => ⟨S8x8x16x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Proof.Protocol.lean ====
/-
  The cross-device protocol of the kernel: who a device talks to, the cells it uses, what each cell's duty carries, what
  a device owes and in which order it pays.

  Four devices on a 2×2 mesh; device `c` exchanges with its three PEERS, `peer p c` (the y neighbour at `p = 0`, the x
  neighbour at `p = 1`, the diagonal at `p = 2`). At grid step `j` it sends its partial result of the step (a bf16 block
  and a pair of f32 rows) into slot `j` of each peer's landing buffers. Every transfer has its own pair of semaphores, used
  once; a barrier handshake at the first step hands each device the peers' landing buffers.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import Idealize.ShloMosaic.Lib.Pipeline.Regions
public import Idealize.ShloMosaic.Lib.Pipeline.Kit
public import Idealize.ShloMosaic.Lib.MemrefSat
public import Idealize.ShloMosaic.Lib.Tactic

@[expose] public section

noncomputable section

namespace Cert.FlashProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The resource algebra: the pipeline library's copy and the protocol's -/

abbrev UU : Type := UR sig nD τ × URounds (GSem nD τ sig) (Fin 3)

local notation "𝕄" => MT nD τ sig Unit (Elt F) ℕ UU ℕ

/-- The pipeline library's copy (left) and the protocol's (right). -/
abbrev EP : Emb (UR sig nD τ) (MT nD τ sig Unit (Elt F) ℕ UU ℕ) := embL
abbrev ER : Emb (URounds (GSem nD τ sig) (Fin 3)) (MT nD τ sig Unit (Elt F) ℕ UU ℕ) := embR

/-! ## Peers -/

/-- Peer `p` of device `c`: its id with the bits of `p + 1` flipped. -/
def peer (p : Fin 3) (c : Dev nD) : Dev nD := ⟨(c.val ^^^ (p.val + 1)) % 4, Nat.mod_lt _ (by decide)⟩

theorem peer_peer (p : Fin 3) (c : Dev nD) : peer p (peer p c) = c := by revert p c; decide
theorem peer_inj (p : Fin 3) : Function.Injective (peer p) := fun a b h => by rw [← peer_peer p a, h, peer_peer]

theorem dev1_eq (c : Dev nD) (h : k0_dev1 c < nD) : (⟨k0_dev1 c, h⟩ : Dev nD) = peer 0 c := by revert c; decide +kernel
theorem dev2_eq (c : Dev nD) (h : k0_dev2 c < nD) : (⟨k0_dev2 c, h⟩ : Dev nD) = peer 1 c := by revert c; decide +kernel
theorem dev3_eq (c : Dev nD) (h : k0_dev3 c < nD) : (⟨k0_dev3 c, h⟩ : Dev nD) = peer 2 c := by revert c; decide +kernel
theorem dev4_eq (c : Dev nD) (h : k0_dev4 c < nD) : (⟨k0_dev4 c, h⟩ : Dev nD) = peer 0 c := by revert c; decide +kernel
theorem dev5_eq (c : Dev nD) (h : k0_dev5 c < nD) : (⟨k0_dev5 c, h⟩ : Dev nD) = peer 0 c := by revert c; decide +kernel
theorem dev6_eq (c : Dev nD) (h : k0_dev6 c < nD) : (⟨k0_dev6 c, h⟩ : Dev nD) = peer 1 c := by revert c; decide +kernel
theorem dev7_eq (c : Dev nD) (h : k0_dev7 c < nD) : (⟨k0_dev7 c, h⟩ : Dev nD) = peer 1 c := by revert c; decide +kernel
theorem dev8_eq (c : Dev nD) (h : k0_dev8 c < nD) : (⟨k0_dev8 c, h⟩ : Dev nD) = peer 2 c := by revert c; decide +kernel
theorem dev9_eq (c : Dev nD) (h : k0_dev9 c < nD) : (⟨k0_dev9 c, h⟩ : Dev nD) = peer 2 c := by revert c; decide +kernel

/-! ## Cells -/

/-- A transfer's semaphore: which of the four arrays (0: block sent, 1: rows sent, 2: block received, 3: rows received),
    which peer, which step. -/
abbrev Key : Type := Fin 4 × Fin 3 × Fin 8

/-- The DMA semaphore under a key, -/
def dsem (x : Key) : DmaSem sig := ⟨7 + 24 * x.1.val + 8 * x.2.1.val + x.2.2.val, by
  have h1 := x.1.isLt; have h2 := x.2.1.isLt; have h3 := x.2.2.isLt
  show _ < 103
  omega⟩
/-- as a semaphore location; -/
def dloc (x : Key) : SemLoc sig := .dma (dsem x)
/-- and the key of a semaphore location, if it has one. -/
def decode : SemLoc sig → Option Key
  | .reg _ => none
  | .dma s => if 7 ≤ s.val then
      some (⟨((s.val - 7) / 24) % 4, Nat.mod_lt _ (by decide)⟩, ⟨((s.val - 7) % 24 / 8) % 3, Nat.mod_lt _ (by decide)⟩,
        ⟨(s.val - 7) % 8, Nat.mod_lt _ (by decide)⟩)
    else none

theorem decode_dloc (x : Key) : decode (dloc x) = some x := by
  obtain ⟨a, p, j⟩ := x
  have h1 := a.isLt; have h2 := p.isLt; have h3 := j.isLt
  simp only [dloc, dsem, decode]
  rw [if_pos (by omega)]
  simp only [Option.some.injEq, Prod.mk.injEq, Fin.ext_iff]
  refine ⟨?_, ?_, ?_⟩ <;> omega

theorem dloc_inj : Function.Injective dloc := fun a b h => Option.some.inj (by rw [← decode_dloc a, h, decode_dloc])

/-- The barrier semaphore of collective id 0. -/
abbrev barS : Sem sig := (SemArray.scalar (sig.barrier 0 rfl) : Sems sig S_).sem
abbrev barCell (c : Dev nD) : GSem nD τ sig := ((c : Thread nD τ), .reg barS)
abbrev kcell (c : Dev nD) (x : Key) : GSem nD τ sig := ((c : Thread nD τ), dloc x)

theorem dloc_ne_bar (x : Key) : dloc x ≠ .reg barS := fun h => by cases h

/-! ## Memory: the send and landing buffers and their slots -/

/-- The sent blocks and rows. -/
abbrev oS : Memref sig .tc .vmem S8x8x8x128 .bf16 := Memref.whole cc0_scratch0
abbrev sS : Memref sig .tc .vmem S8x2x8x8 .f32 := Memref.whole cc0_scratch1
/-- Where the block and the rows of peer `p` land. -/
abbrev oR (p : Fin 3) : Memref sig .tc .vmem S8x8x8x128 .bf16 :=
  match p with | 0 => Memref.whole cc0_scratch2 | 1 => Memref.whole cc0_scratch4 | 2 => Memref.whole cc0_scratch6
abbrev sR (p : Fin 3) : Memref sig .tc .vmem S8x2x8x8 .f32 :=
  match p with | 0 => Memref.whole cc0_scratch3 | 1 => Memref.whole cc0_scratch5 | 2 => Memref.whole cc0_scratch7

theorem oRect_inb (j : Fin 8) : ∀ a, (![j.val, 0, 0, 0] : Fin 4 → Nat) a + S1x8x8x128.size a ≤ S8x8x8x128.size a := by revert j; decide
theorem sRect_inb (j : Fin 8) : ∀ a, (![j.val, 0, 0, 0] : Fin 4 → Nat) a + S1x2x8x8.size a ≤ S8x2x8x8.size a := by revert j; decide
theorem rRect_inb (j : Fin 8) (k : Fin 2) : ∀ a, (![j.val, k.val, 0, 0] : Fin 4 → Nat) a + S1x1x8x8.size a ≤ S8x2x8x8.size a := by revert j k; decide

/-- Step `j`'s slot of a block buffer and of a rows buffer; row `k` of the latter. -/
abbrev oRect (j : Fin 8) : Rect S8x8x8x128 := Rect.unit (s := S8x8x8x128) ![j.val, 0, 0, 0] S1x8x8x128.size (oRect_inb j)
abbrev sRect (j : Fin 8) : Rect S8x2x8x8 := Rect.unit (s := S8x2x8x8) ![j.val, 0, 0, 0] S1x2x8x8.size (sRect_inb j)
abbrev rRect (j : Fin 8) (k : Fin 2) : Rect S8x2x8x8 := Rect.unit (s := S8x2x8x8) ![j.val, k.val, 0, 0] S1x1x8x8.size (rRect_inb j k)

abbrev oSlot (M : Memref sig .tc .vmem S8x8x8x128 .bf16) (j : Fin 8) : Memref sig .tc .vmem S1x8x8x128 .bf16 :=
  M.slice (oRect j) (fun _ => rfl)
abbrev sSlot (M : Memref sig .tc .vmem S8x2x8x8 .f32) (j : Fin 8) : Memref sig .tc .vmem S1x2x8x8 .f32 :=
  M.slice (sRect j) (fun _ => rfl)

/-- The share of a sent slot that the transfer to peer `p` holds. -/
def shr : Fin 3 → PosShare TreeShare
  | 0 => fullShare.left
  | 1 => fullShare.right.left
  | 2 => fullShare.right.right

/-- What a transfer of a block and of a pair of rows credits. -/
abbrev NO : ℕ := (oSlot oS 0).view.dmaCredit
abbrev NS : ℕ := (sSlot sS 0).view.dmaCredit
theorem NO_pos : 0 < NO := View.dmaCredit_pos _ (by decide)
theorem NS_pos : 0 < NS := View.dmaCredit_pos _ (by decide)

/-- The credit of array `a`'s transfers. -/
def amt (a : Fin 4) : ℕ := if a.val % 2 = 0 then NO else NS
theorem amt_pos (a : Fin 4) : 0 < amt a := by unfold amt; split; exacts [NO_pos, NS_pos]

/-! ## What is sent -/

/-- What every device sends at every step: a block and a pair of rows. -/
structure Sent (F : FTy → Type) where
  /-- the block, -/
  o : Dev nD → Fin 8 → S1x8x8x128.Idx → Elt F .bf16
  /-- the rows. -/
  s : Dev nD → Fin 8 → S1x2x8x8.Idx → Elt F .f32

variable (X : Sent F)

/-! ## The schedule -/

/-- Device `c`'s landing slot `j` for peer `p`, at any contents, with the marks that its receive cells are open. -/
def lend (c : Dev nD) (p : Fin 3) (j : Fin 8) : sProp 𝕄 :=
  iprop((∃ Y, ownsTc c (oSlot (oR p) j) fullShare Y) ∗ (∃ Y, ownsTc c (sSlot (sR p) j) fullShare Y)
    ∗ reached ER (kcell c (2, p, j)) 0 ∗ reached ER (kcell c (3, p, j)) 0)

/-- What peer `p`'s barrier unit brings device `c`: the peer's landing buffers for it. -/
def barPay (c : Dev nD) (p : Fin 3) : sProp 𝕄 := bigSep Finset.univ fun j => lend (peer p c) p j

/-- What the duty of a DMA cell brings device `c`: a sent slot's share back, or a landed slot at what the peer sent. -/
def dmaPay (c : Dev nD) : Key → sProp 𝕄
  | (0, p, j) => ownsTc c (oSlot oS j) (shr p) (X.o c j)
  | (1, p, j) => ownsTc c (sSlot sS j) (shr p) (X.s c j)
  | (2, p, j) => ownsTc c (oSlot (oR p) j) fullShare (X.o (peer p c) j)
  | (3, p, j) => ownsTc c (sSlot (sR p) j) fullShare (X.s (peer p c) j)

/-- The duties of a cell of the protocol. -/
def dutiesOf (s : SemLoc sig) : Finset (Fin 3) :=
  if s = .reg barS then Finset.univ else match decode s with | some _ => {0} | none => ∅

/-- One round on every cell: three one-unit duties on a barrier cell, one duty of the transfer's credit on a DMA cell. -/
def Rd : Rounds.Schedule (GSem nD τ sig) (Fin 3) 𝕄 where
  duties g r := if r = 0 ∧ g.1.2 = .tc then dutiesOf g.2 else ∅
  unitless _ := False
  amount g _ _ := match decode g.2 with | some x => amt x.1 | none => 1
  payload g _ d := if g.2 = .reg barS then barPay g.1.1 d else match decode g.2 with | some x => dmaPay X g.1.1 x | none => iprop(emp)
  amount_pos g _ _ _ := by
    cases h : decode g.2 with
    | none => exact Nat.one_pos
    | some x => exact amt_pos _

instance dmaPay_storable (c : Dev nD) (x : Key) : BI.Storable (upEmb : UEmb _ 𝕄) (dmaPay X c x) := by
  obtain ⟨a, p, j⟩ := x
  fin_cases a <;> simp only [dmaPay] <;> infer_instance

instance lend_storable (c : Dev nD) (p : Fin 3) (j : Fin 8) : BI.Storable (upEmb : UEmb _ 𝕄) (lend (F := F) c p j) := by
  unfold lend; infer_instance

instance barPay_storable (c : Dev nD) (p : Fin 3) : BI.Storable (upEmb : UEmb _ 𝕄) (barPay (F := F) c p) := by
  unfold barPay; infer_instance

instance Rd_payload_storable (g : GSem nD τ sig) (r : ℕ) (d : Fin 3) : BI.Storable (upEmb : UEmb _ 𝕄) ((Rd X).payload g r d) := by
  show BI.Storable upEmb (if g.2 = .reg barS then barPay g.1.1 d else match decode g.2 with | some x => dmaPay X g.1.1 x | none => iprop(emp))
  split
  · infer_instance
  · split <;> infer_instance

section Sched

variable (c : Dev nD) (x : Key)

omit [FloatOps F] [Named F] in
theorem duties_bar : (Rd X).duties (barCell c) 0 = Finset.univ := by
  dsimp only [Rd]; rw [if_pos ⟨rfl, rfl⟩]; unfold dutiesOf; exact if_pos rfl
omit [FloatOps F] [Named F] in
theorem duties_key : (Rd X).duties (kcell c x) 0 = {0} := by
  dsimp only [Rd]; rw [if_pos ⟨rfl, rfl⟩]; unfold dutiesOf; rw [if_neg (dloc_ne_bar x), decode_dloc]
omit [FloatOps F] [Named F] in
theorem duties_later (g : GSem nD τ sig) : ∀ r, 1 ≤ r → (Rd X).duties g r = ∅ :=
  fun r hr => by dsimp only [Rd]; exact if_neg fun h => by omega
omit [FloatOps F] [Named F] in
theorem amount_bar (d : Fin 3) : (Rd X).amount (barCell c) 0 d = 1 := rfl
omit [FloatOps F] [Named F] in
theorem amount_key (d : Fin 3) : (Rd X).amount (kcell c x) 0 d = amt x.1 := by dsimp only [Rd]; rw [decode_dloc]
omit [FloatOps F] [Named F] in
theorem expect_bar : (Rd X).expect (barCell c) 0 = 3 := by
  unfold Schedule.expect Schedule.amountOf; rw [duties_bar]; rfl
omit [FloatOps F] [Named F] in
theorem expect_key : (Rd X).expect (kcell c x) 0 = amt x.1 := by
  unfold Schedule.expect Schedule.amountOf; rw [duties_key, Finset.sum_singleton, amount_key]
omit [FloatOps F] [Named F] in
theorem payload_bar (d : Fin 3) : (Rd X).payload (barCell c) 0 d = barPay c d := by dsimp only [Rd]; exact if_pos rfl
omit [FloatOps F] [Named F] in
theorem payload_key (d : Fin 3) : (Rd X).payload (kcell c x) 0 d = dmaPay X c x := by
  dsimp only [Rd]; rw [if_neg (dloc_ne_bar x), decode_dloc]
omit [FloatOps F] [Named F] in
theorem rest_bar : bigSep ((Rd X).duties (barCell c) 0 \ ∅) (fun d => (Rd X).payload (barCell c) 0 d)
    = bigSep Finset.univ fun d => barPay (F := F) c d := by
  rw [Finset.sdiff_empty, duties_bar, BI.bigSep_congr fun d _ => payload_bar X c d]
omit [FloatOps F] [Named F] in
theorem rest_key : bigSep ((Rd X).duties (kcell c x) 0 \ ∅) (fun d => (Rd X).payload (kcell c x) 0 d) = dmaPay X c x := by
  rw [Finset.sdiff_empty, duties_key, bigSep_singleton, payload_key]

end Sched

/-! ## What a device owes, and the levels -/

/-- The credit of array `a` of peer `p` of device `c` at step `j`. -/
abbrev tal (c : Dev nD) (a : Fin 4) (p : Fin 3) (j : Fin 8) : CellTallies nD τ sig Unit := tallyAt (kcell (peer p c) (a, p, j)) () (amt a)

/-- `O` with step `j`'s six receive credits, the one paid first last. -/
def stepOwe (c : Dev nD) (j : Fin 8) (O : CellTallies nD τ sig Unit) : CellTallies nD τ sig Unit :=
  O + tal c 3 2 j + tal c 2 2 j + tal c 3 1 j + tal c 2 1 j + tal c 3 0 j + tal c 2 0 j

/-- The credits of the last `n` steps. -/
def owedN (c : Dev nD) : ℕ → CellTallies nD τ sig Unit
  | 0 => 0
  | n + 1 => stepOwe c ⟨7 - n, by omega⟩ (owedN c n)

/-- The credits device `c` owes from step `t` on. -/
def owing (c : Dev nD) (t : ℕ) : CellTallies nD τ sig Unit := owedN c (8 - t)

theorem owing_step (c : Dev nD) (t : Fin 8) : owing c t.val = stepOwe c t (owing c (t.val + 1)) := by
  unfold owing
  have h : 8 - t.val = (8 - (t.val + 1)) + 1 := by have := t.isLt; omega
  rw [h]
  show stepOwe c _ _ = _
  congr 1
  apply Fin.ext
  have := t.isLt
  show 7 - (8 - (t.val + 1)) = t.val
  omega

theorem owing_end (c : Dev nD) : owing c 8 = 0 := rfl

/-- What device `c` owes at launch: every step's credits, and its barrier unit to each peer (the y neighbour's paid first). -/
def O₀ (c : Dev nD) : CellTallies nD τ sig Unit :=
  owing c 0 + tallyAt (barCell (peer 2 c)) () 1 + tallyAt (barCell (peer 1 c)) () 1 + tallyAt (barCell (peer 0 c)) () 1

def L (g : GSem nD τ sig) : Finset Unit := if g.1.2 = .tc then {()} else ∅
/-- Barrier cells at 1, the receive cells of step `j` at `2 + j`, the rest at 0. -/
def lvl (s : SemLoc sig) : ℕ :=
  if s = .reg barS then 1 else match decode s with | some x => if 2 ≤ x.1.val then 2 + x.2.2.val else 0 | none => 0
def lv (g : GSem nD τ sig) (_ : Unit) : ℕ := lvl g.2

theorem L_of_ne (g : GSem nD τ sig) (h : g.1.2 ≠ .tc) : L g = ∅ := if_neg h
theorem L_tc (c : Dev nD) (sm : SemLoc sig) : L ((c : Thread nD τ), sm) = {()} := if_pos rfl
theorem lvl_bar : lvl (.reg barS) = 1 := if_pos rfl
theorem lvl_key (x : Key) : lvl (dloc x) = if 2 ≤ x.1.val then 2 + x.2.2.val else 0 := by
  unfold lvl; rw [if_neg (dloc_ne_bar x), decode_dloc]

/-- What is owed from step `t` on is owed to receive cells of those steps. -/
theorem owedN_pos (c : Dev nD) (n : ℕ) (g : GSem nD τ sig) (u : Unit) (h : 0 < owedN c n g u) :
    ∃ (d : Dev nD) (a : Fin 4) (p : Fin 3) (j : Fin 8), 2 ≤ a.val ∧ 8 - n ≤ j.val ∧ g = kcell d (a, p, j) := by
  induction n with
  | zero => exact absurd h (Nat.lt_irrefl 0)
  | succ n ih =>
    simp only [owedN, stepOwe] at h
    simp only [Pi.add_apply, Finsupp.add_apply, tallyAt_apply] at h
    have key : ∀ (a : Fin 4) (p : Fin 3), 2 ≤ a.val → g = kcell (peer p c) (a, p, ⟨7 - n, by omega⟩) → _ :=
      fun a p ha hg => (⟨peer p c, a, p, ⟨7 - n, by omega⟩, ha, by show 8 - (n+1) ≤ 7 - n; omega, hg⟩ : ∃ (d : Dev nD) (a : Fin 4) (p : Fin 3) (j : Fin 8), 2 ≤ a.val ∧ 8 - (n+1) ≤ j.val ∧ g = kcell d (a, p, j))
    by_cases h0 : 0 < owedN c n g u
    · obtain ⟨d, a, p, j, h1, h2, h3⟩ := ih h0
      exact ⟨d, a, p, j, h1, by omega, h3⟩
    · by_cases h1 : g = kcell (peer 2 c) (3, 2, ⟨7 - n, by omega⟩)
      · exact key 3 2 (by decide) h1
      by_cases h2 : g = kcell (peer 2 c) (2, 2, ⟨7 - n, by omega⟩)
      · exact key 2 2 (by decide) h2
      by_cases h3 : g = kcell (peer 1 c) (3, 1, ⟨7 - n, by omega⟩)
      · exact key 3 1 (by decide) h3
      by_cases h4 : g = kcell (peer 1 c) (2, 1, ⟨7 - n, by omega⟩)
      · exact key 2 1 (by decide) h4
      by_cases h5 : g = kcell (peer 0 c) (3, 0, ⟨7 - n, by omega⟩)
      · exact key 3 0 (by decide) h5
      by_cases h6 : g = kcell (peer 0 c) (2, 0, ⟨7 - n, by omega⟩)
      · exact key 2 0 (by decide) h6
      exfalso
      rw [if_neg (fun e => h1 e.1), if_neg (fun e => h2 e.1), if_neg (fun e => h3 e.1), if_neg (fun e => h4 e.1),
        if_neg (fun e => h5 e.1), if_neg (fun e => h6 e.1)] at h
      omega

omit [FloatOps F] [Named F] in
/-- A wait on a cell below the levels of the steps still owed is allowed. -/
theorem mayWait (c : Dev nD) (s : SemLoc sig) (t : ℕ) (ht : t ≤ 8) (hs : lvl s < 2 + t) :
    (levAts L lv : sProp 𝕄) ⊢ MayWait (c : Thread nD τ) s () (owing c t) :=
  MayOwe.of_cut (L := L) (lev := lv) (lvl s) (fun p hp => by rw [Finset.mem_singleton.mp hp, L_tc]; exact Finset.mem_singleton_self _)
    (fun g u hg => by
      obtain ⟨d, a, p, j, -, -, rfl⟩ := owedN_pos c _ g u hg
      rw [L_tc]; exact Finset.mem_singleton_self _)
    (fun p hp => by rw [Finset.mem_singleton.mp hp]; exact le_rfl)
    (fun g u hg => by
      obtain ⟨d, a, p, j, ha, hj, rfl⟩ := owedN_pos c _ g u hg
      show lvl s < lvl (dloc (a, p, j))
      rw [lvl_key, if_pos ha]
      show lvl s < 2 + j.val
      omega)

end Cert.FlashProof

end
-- ==== Proof.Ops.lean ====
/-
  One rule per kind of memory operation of the kernel's body, over the protocol: a load of a slot or of a row of a slot, a
  store, a transfer to a peer, the wait for a transfer. Each is stated over the spelling of the offsets the program uses and
  the equation of that spelling with the canonical offsets.
-/
module

public import proofs.«01_k».proof.Proof.Protocol
public import Idealize.ShloMosaic.Lib.Writes
public import Idealize.ShloMosaic.Lib.ViewIndex

@[expose] public section

noncomputable section

namespace Cert.FlashProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- The kernel's variants: none. -/
abbrev 𝒱₀ : Variants := Variants.none

/-- The weakest precondition of a program on device `c`'s TensorCore. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Device `c` owes `O`, whatever waits are recorded. -/
def owesW (c : Dev nD) (O : CellTallies nD τ sig Unit) : sProp 𝕄 := iprop(∃ W, owes (c : Thread nD τ) O W)

variable (X : Sent F)

/-! ## The cells' invariants -/

/-- Every DMA cell and every barrier cell of the four devices. -/
def keyCells : Finset (GSem nD τ sig) := (Finset.univ : Finset (Dev nD × Key)).image fun cx => kcell cx.1 cx.2
def barCells : Finset (GSem nD τ sig) := (Finset.univ : Finset (Dev nD)).image barCell

/-- All of them, as a set that no check enumerates. -/
theorem cells_exists : ∃ S : Finset (GSem nD τ sig), S = barCells ∪ keyCells := ⟨_, rfl⟩
def cells : Finset (GSem nD τ sig) := cells_exists.choose
theorem cells_eq : cells = barCells ∪ keyCells := cells_exists.choose_spec

/-- The invariants of all cells, under the names `K`. Persistent. -/
def invs (K : GSem nD τ sig → ℕ) : sProp 𝕄 := bigSep cells fun g => cellInv ER (Rd X) (K g) g

instance invs_persistent (K : GSem nD τ sig → ℕ) : BI.Persistent (invs X K) := by unfold invs; infer_instance

theorem mem_key (c : Dev nD) (x : Key) : kcell c x ∈ cells :=
  cells_eq ▸ Finset.mem_union_right _ (Finset.mem_image.mpr ⟨(c, x), Finset.mem_univ _, rfl⟩)
theorem mem_bar (c : Dev nD) : barCell c ∈ cells :=
  cells_eq ▸ Finset.mem_union_left _ (Finset.mem_image.mpr ⟨c, Finset.mem_univ _, rfl⟩)

omit [FloatOps F] [Named F] in
theorem invs_key (K : GSem nD τ sig → ℕ) (c : Dev nD) (x : Key) : invs X K ⊢ cellInv ER (Rd X) (K (kcell c x)) (kcell c x) := by
  unfold invs; exact BI.bigSep_elim (mem_key c x)
omit [FloatOps F] [Named F] in
theorem invs_bar (K : GSem nD τ sig → ℕ) (c : Dev nD) : invs X K ⊢ cellInv ER (Rd X) (K (barCell c)) (barCell c) := by
  unfold invs; exact BI.bigSep_elim (mem_bar c)

omit [FloatOps F] [Named F] in
/-- The owner of a cell past its one round closes it and has the counter back at zero. -/
theorem close (κ : ℕ) (g : GSem nD τ sig) :
    iprop(cellInv ER (Rd X) κ g ∗ atPos ER g (0 + 1) ∅ 0) ⊢ (|={Set.univ}=> semVal g 0 : sProp 𝕄) :=
  Rounds.cell_close ER (Rd X) (Set.mem_univ κ) id (duties_later X g)

/-! ## Semaphores -/

/-- The four semaphore arrays. -/
abbrev arrs (a : Fin 4) : DmaSems sig S3x8 :=
  match a with | 0 => cc0_scratch8 | 1 => cc0_scratch9 | 2 => cc0_scratch10 | 3 => cc0_scratch11

/-- The semaphore at offsets `(p, j)` of array `a`. -/
theorem sem_eq (a : Fin 4) (p : Fin 3) (j : Fin 8) {off : Fin 2 → Nat} (h : off = ![p.val, j.val])
    (inb : ∀ k, off k + S1x1.size k ≤ S3x8.size k) :
    (((arrs a).slice (Rect.unit (s := S3x8) off S1x1.size inb)).squeeze S_ squeezes_S1x1_S_).sem = dsem (a, p, j) := by
  subst h; revert a p j; decide +kernel

/-! ## Waits -/

/-- The wait for the transfer under key `x`, owing the steps from `t` on: what the cell's duty brought, and the cell closed. -/
theorem wp_wait (K : GSem nD τ sig → ℕ) (c : Dev nD) (x : Key) (t : ℕ) (ht : t ≤ 8) (hx : x.2.2.val < t)
    {sem : DmaSem sig} (hs : sem = dsem x) {sp sp' : Space} {s s' : Shape} {e e' : EltTy}
    {src : Memref sig .tc sp' s' e'} {dst : Memref sig .tc sp s e} (hcr : dst.view.dmaCredit = amt x.1)
    {h₁ : src.view.WordExact} {h₂ : dst.view.WordExact}
    {α : Type} {Q : α → sProp 𝕄} {k : PUnit → Prog (TpuEff nD τ sig (Elt F) Λ₀ .tc) α} :
    iprop(invs X K ∗ levAts L lv ∗ cred (tallyAt (kcell c x) () (amt x.1)) ∗ owesW c (owing c t) ∗ atPos ER (kcell c x) 0 ∅ 0)
      ⊢ iprop(((owesW c (owing c t) ∗ semVal (kcell c x) 0 ∗ dmaPay X c x) -∗ wpc c (k ⟨⟩) Q)
          -∗ wpc c (.op (.waitDma2 sem src dst h₁ h₂) k) Q) := by
  subst hs
  unfold owesW
  iintro ⟨#HI, #Hlev, Hc, ⟨%W, HO⟩, Hat⟩ Hk
  ihave #Hi := (invs_key X K c x) $$ HI
  iapply (Rounds.wp_wait_rest_token 𝒱₀ ER (Rd X) (c : Thread nD τ) none (κ := K (kcell c x)) (sm := dloc x)
      (wpE_waitDma2_eq 𝒱₀ (c : Thread nD τ) none Set.univ) (Set.mem_univ _) () (O := owing c t) (W := W) (R := 0) (m := 0) (T := ∅)
      (by rw [Nat.zero_add, hcr, expect_key])) $$ [Hc HO Hat]
  · isplitr; · iexact Hi
    isplitl [Hc]; · rw [hcr]; iexact Hc
    isplitl [HO]; · iexact HO
    isplitr
    · iapply (mayWait c (dloc x) t ht (by rw [lvl_key]; split <;> omega)); iexact Hlev
    iexact Hat
  iintro ⟨HO, Hat, -, Hpay⟩
  ihave Hp := (Entails.of_eq (rest_key X c x)) $$ Hpay
  imod (close X (K (kcell c x)) (kcell c x)) $$ [Hat] with Hz
  · isplitr; · iexact Hi
    iexact Hat
  iapply Hk
  isplitl [HO]; · iexists _; iexact HO
  isplitl [Hz]; · iexact Hz
  iexact Hp

/-! ## Transfers -/

omit [FloatOps F] [Named F] in
/-- What a view reads once another view's elements landed in it, both through a re-indexing: what that view reads. -/
theorem read_landed {κ κ' : Kind} {sp sp' : Space} {s s' : Shape} {e : EltTy} (v : View sig κ sp s e) (v' : View sig κ' sp' s e)
    (h : s'.numel = s.numel) (fd : v'.ty.Contents (Elt F)) (fs : v.ty.Contents (Elt F)) :
    v'.read (Elt F) ((v'.reshape s' h).write (Elt F) fd ((v.reshape s' h).read (Elt F) fs) Finset.univ) = v.read (Elt F) fs := by
  funext x
  obtain ⟨y, rfl⟩ := (Shape.reshapeEquiv h).surjective x
  rw [View.read_write_reshape]
  rfl

/-- The transfer of a slot of a send buffer to the same slot of a peer's landing buffer. -/
theorem wp_xfer (K : GSem nD τ sig → ℕ) (c : Dev nD) (p : Fin 3) (x y : Key) (n : Dev nD) (hn : n = peer p c)
    {s s' : Shape} {e : EltTy} (src : Memref sig .tc .vmem s e) (dst : Memref sig .tc .vmem s e) (hq : s.Squeezes s')
    {sem₁ sem₂ : DmaSem sig} (hs₁ : sem₁ = dsem x) (hs₂ : sem₂ = dsem y)
    {hsc : (dst.squeeze s' hq : Memref sig (Dev.tc n : Thread nD τ).2.kind .vmem s' e).view.ref.isScScratch = false}
    {hsrc : (src.squeeze s' hq).view.WordExact} {hdst : (dst.squeeze s' hq).view.WordExact}
    {hsem : DmaTarget.Typed .vmem (.dma sem₂) (.remote (Dev.tc n : Thread nD τ) (dst.squeeze s' hq) (.dma sem₁) hsc)}
    (hcr : (dst.squeeze s' hq).view.dmaCredit = amt x.1) (hxy : amt y.1 = amt x.1)
    (q : PosShare TreeShare) (V : s.Idx → Elt F e)
    (hp₁ : dmaPay X c x = ownsTc c src q V) (hp₂ : dmaPay X (peer p c) y = ownsTc (peer p c) dst fullShare V)
    (O : CellTallies nD τ sig Unit)
    {α : Type} {Q : α → sProp 𝕄} {k : PUnit → Prog (TpuEff nD τ sig (Elt F) Λ₀ .tc) α} :
    iprop(invs X K ∗ ownsTc c src q V ∗ (∃ Y, ownsTc (peer p c) dst fullShare Y) ∗ owesW c (O + tallyAt (kcell (peer p c) y) () (amt y.1))
        ∗ dutyTok ER (kcell c x) 0 0 ∗ reached ER (kcell c x) 0 ∗ dutyTok ER (kcell (peer p c) y) 0 0 ∗ reached ER (kcell (peer p c) y) 0)
      ⊢ iprop(((cred (tallyAt (kcell c x) () (amt x.1)) ∗ owesW c O) -∗ wpc c (k ⟨⟩) Q)
          -∗ wpc c (.op (.enqueueDma (src.squeeze s' hq) (.remote (Dev.tc n : Thread nD τ) (dst.squeeze s' hq) (.dma sem₁) hsc) (.dma sem₂) hsrc hdst hsem) k) Q) := by
  subst hn hs₁ hs₂
  unfold owesW
  iintro ⟨#HI, Hs, ⟨%Y, Hd⟩, ⟨%W, HO⟩, Ht, #Hr, Ht', #Hr'⟩ Hk
  ihave #Hi := (invs_key X K c x) $$ HI
  ihave #Hi' := (invs_key X K (peer p c) y) $$ HI
  ihave Hs := (show ownsTc c src q V ⊢ iprop(∃ g, ⌜src.view.read (Elt F) g = V⌝ ∗ (src.view.loc (c : Thread nD τ) ↦[src.view.set]{q} g)) from .rfl) $$ Hs
  icases Hs with ⟨%fs, %hfs, Hs⟩
  ihave Hd := (show ownsTc (peer p c) dst fullShare Y ⊢ iprop(∃ g, ⌜dst.view.read (Elt F) g = Y⌝ ∗ (dst.view.loc (peer p c : Thread nD τ) ↦[dst.view.set]{fullShare} g)) from .rfl) $$ Hd
  icases Hd with ⟨%fd, -, Hd⟩
  have hset₁ : (src.squeeze s' hq).view.set = src.view.set := View.set_reshape _ _
  have hset₂ : (dst.squeeze s' hq).view.set = dst.view.set := View.set_reshape _ _
  iapply (Rounds.wp_send_pointsTo 𝒱₀ ER (Rd X) (c : Thread nD τ) none (κ₁ := K (kcell c x)) (κ₂ := K (kcell (peer p c) y))
    (r₁ := 0) (r₂ := 0) (d₁ := 0) (d₂ := 0) (fd := fd) (fs := fs) (q := q) (src := src.squeeze s' hq) (dst := dst.squeeze s' hq)
    (c' := (peer p c : Thread nD τ)) (sS := dloc x) (sem := dloc y)
    (by rw [duties_key]; exact Finset.mem_singleton_self _) (by rw [duties_key]; exact Finset.mem_singleton_self _)
    () () (amt x.1) hcr (amount_key X c x 0) ((amount_key X (peer p c) y 0).trans hxy) O (by rw [← hxy]) (W := W)
    (by rw [payload_key, hp₁, hset₁]; unfold ownsTc owns
        iintro H; iexists fs; isplitr
        · ipureintro; exact hfs
        · iexact H)
    (by rw [payload_key, hp₂, hset₂]; unfold ownsTc owns
        iintro H; iexists _; isplitr
        rotate_left
        · iexact H
        · ipureintro; exact (read_landed src.view dst.view hq.numel_eq fd fs).trans hfs)) $$ [Hs Hd HO Ht Ht']
  · isplitr; · iexact Hi
    isplitr; · iexact Hi'
    isplitl [Hs]; · rw [hset₁]; iexact Hs
    isplitl [Hd]; · rw [hset₂]; iexact Hd
    isplitl [HO]; · iexact HO
    isplitl [Ht]; · iexact Ht
    isplitr; · iexact Hr
    isplitl [Ht']; · iexact Ht'
    iexact Hr'
  iintro ⟨Hc, HO⟩
  iapply Hk
  isplitl [Hc]; · iexact Hc
  iexists W; iexact HO

/-! ## Loads and stores -/

/-- A load of a slice owned at `V` reads `V`. -/
theorem wp_load_slice (c : Dev nD) {s : Shape} {e : EltTy} (m : Memref sig .tc .vmem s e) (r : Rect s) (hr : ∀ a, r.stride a = 1)
    (q : PosShare TreeShare) (V : r.shape.Idx → Elt F e) {hl : m.view.LoadsAt r}
    {α : Type} {Q : α → sProp 𝕄} {k : (r.shape.Idx → Elt F e) → Prog (TpuEff nD τ sig (Elt F) Λ₀ .tc) α} :
    (ownsTc c (m.slice r hr) q V : sProp 𝕄)
      ⊢ iprop((ownsTc c (m.slice r hr) q V -∗ wpc c (k V) Q) -∗ wpc c (.op (.load m r hl) k) Q) := by
  unfold ownsTc owns
  iintro ⟨%f, %hf, H⟩ Hk
  iapply (wp_load_rect 𝒱₀ (c : Thread nD τ) none Set.univ (m := m) (r := r) (f := f) (q := q) (S := (m.access r).set) subset_rfl) $$ [H]
  · iexact H
  iintro H
  rw [show (m.access r).read (Elt F) f = V from hf]
  iapply Hk
  iexists f; isplitr
  · ipureintro; exact hf
  · iexact H

/-- A load of a rectangle of a memref owned at `V` reads `V` there. -/
theorem wp_load_part (c : Dev nD) {s : Shape} {e : EltTy} (m : Memref sig .tc .vmem s e) (r : Rect s)
    (q : PosShare TreeShare) (V : s.Idx → Elt F e) {hl : m.view.LoadsAt r}
    {α : Type} {Q : α → sProp 𝕄} {k : (r.shape.Idx → Elt F e) → Prog (TpuEff nD τ sig (Elt F) Λ₀ .tc) α} :
    (ownsTc c m q V : sProp 𝕄)
      ⊢ iprop((ownsTc c m q V -∗ wpc c (k fun i => V (r.emb i)) Q) -∗ wpc c (.op (.load m r hl) k) Q) := by
  unfold ownsTc owns
  iintro ⟨%f, %hf, H⟩ Hk
  iapply (wp_load_rect 𝒱₀ (c : Thread nD τ) none Set.univ (m := m) (r := r) (f := f) (q := q) (S := m.view.set) (View.set_slice_subset _ _)) $$ [H]
  · iexact H
  iintro H
  rw [show (m.access r).read (Elt F) f = fun i => V (r.emb i) from by rw [← hf]; rfl]
  iapply Hk
  iexists f; isplitr
  · ipureintro; exact hf
  · iexact H

/-- An unmasked store to a slice owned at anything leaves it owned at the payload. -/
theorem wp_store_slice (c : Dev nD) {s : Shape} {e : EltTy} (m : Memref sig .tc .vmem s e) (r : Rect s) (hr : ∀ a, r.stride a = 1)
    (V w : r.shape.Idx → Elt F e) {hx : (m.access r).Stores Finset.univ} {hm : (Finset.univ : Finset r.shape.Idx) = Finset.univ ∨ ∀ a, r.stride a = 1}
    {α : Type} {Q : α → sProp 𝕄} {k : PUnit → Prog (TpuEff nD τ sig (Elt F) Λ₀ .tc) α} :
    (ownsTc c (m.slice r hr) fullShare V : sProp 𝕄)
      ⊢ iprop((ownsTc c (m.slice r hr) fullShare w -∗ wpc c (k ⟨⟩) Q) -∗ wpc c (.op (.store m r w Finset.univ hx hm) k) Q) := by
  unfold ownsTc owns
  iintro ⟨%f, -, H⟩ Hk
  iapply (wp_store 𝒱₀ (c : Thread nD τ) none Set.univ (m := m) (r := r) (f := f) (S := (m.access r).set)
    (by rw [View.setOn_univ])) $$ [H]
  · iexact H
  iintro H
  iapply Hk
  iexists _; isplitr
  rotate_left
  · iexact H
  · ipureintro; exact View.read_write_univ _ _

/-- An unmasked store to a rectangle of a memref owned at `V` leaves it owned at `V` with the payload laid over it there. -/
theorem wp_store_part (c : Dev nD) {s : Shape} {e : EltTy} (m : Memref sig .tc .vmem s e) (r : Rect s)
    (V : s.Idx → Elt F e) (w : r.shape.Idx → Elt F e) {hx : (m.access r).Stores Finset.univ} {hm : (Finset.univ : Finset r.shape.Idx) = Finset.univ ∨ ∀ a, r.stride a = 1}
    {α : Type} {Q : α → sProp 𝕄} {k : PUnit → Prog (TpuEff nD τ sig (Elt F) Λ₀ .tc) α} :
    (ownsTc c m fullShare V : sProp 𝕄)
      ⊢ iprop((ownsTc c m fullShare (r.overlay V w) -∗ wpc c (k ⟨⟩) Q) -∗ wpc c (.op (.store m r w Finset.univ hx hm) k) Q) := by
  unfold ownsTc owns
  iintro ⟨%f, %hf, H⟩ Hk
  iapply (wp_store 𝒱₀ (c : Thread nD τ) none Set.univ (m := m) (r := r) (f := f) (S := m.view.set)
    (by rw [View.setOn_univ]; exact View.set_slice_subset _ _)) $$ [H]
  · iexact H
  iintro H
  iapply Hk
  iexists _; isplitr
  rotate_left
  · iexact H
  · ipureintro
    funext y
    by_cases hy : y ∈ r.set
    · obtain ⟨i, rfl⟩ := r.exists_idx_of_mem hy
      exact (View.read_slice_write_emb r _ w (Finset.mem_univ i)).trans (Rect.overlay_emb r V w i).symm
    · rw [Rect.overlay_of_not_mem _ _ _ hy, ← hf]
      exact View.read_slice_write_of_not_mem r _ _ _ (by rw [Rect.map_emb_univ]; exact hy)

/-! ## Slots and rows at the program's offsets -/

theorem rowIn_inb (k : Fin 2) : ∀ a, (![0, k.val, 0, 0] : Fin 4 → Nat) a + S1x1x8x8.size a ≤ S1x2x8x8.size a := by revert k; decide
/-- Row `k` of a pair of rows. -/
abbrev rowIn (k : Fin 2) : Rect S1x2x8x8 := Rect.unit (s := S1x2x8x8) ![0, k.val, 0, 0] S1x1x8x8.size (rowIn_inb k)
def rowOf {α : Type} (k : Fin 2) (V : S1x2x8x8.Idx → α) : S1x1x8x8.Idx → α := fun i => V ((rowIn k).emb i)

theorem rRect_emb (j : Fin 8) (k : Fin 2) (i : S1x1x8x8.Idx) : (sRect j).emb ((rowIn k).emb i) = (rRect j k).emb i := by
  funext a
  apply Fin.ext
  fin_cases a <;> simp [Rect.emb, Rect.unit]

/-- A pair of rows is its two rows. -/
theorem rows_ext {α : Type} {V W : S1x2x8x8.Idx → α} (h0 : rowOf 0 V = rowOf 0 W) (h1 : rowOf 1 V = rowOf 1 W) : V = W := by
  funext i
  have hi0 : (i 0).val = 0 := by have := (i 0).isLt; simp at this; omega
  have hi1 : (i 1).val = 0 ∨ (i 1).val = 1 := by have := (i 1).isLt; simp at this; omega
  let y : S1x1x8x8.Idx := fun a => match a with | 0 => ⟨0, by decide⟩ | 1 => ⟨0, by decide⟩ | 2 => i 2 | 3 => i 3
  rcases hi1 with hi1 | hi1
  · have e : (rowIn 0).emb y = i := by
      funext a; apply Fin.ext
      fin_cases a <;> simp [Rect.emb, Rect.unit, y, hi0, hi1]
    have := congrFun h0 y
    simp only [rowOf, e] at this
    exact this
  · have e : (rowIn 1).emb y = i := by
      funext a; apply Fin.ext
      fin_cases a <;> simp [Rect.emb, Rect.unit, y, hi0, hi1]
    have := congrFun h1 y
    simp only [rowOf, e] at this
    exact this

end Cert.FlashProof

end
-- ==== Proof.Combine.lean ====
/-
  The combine: the wait for one step's twelve transfers, and the two merges of sent results into the output block. The kernel
  prints it three times, at offsets computed from the grid point and at literal ones; here it is run once at any offsets.
-/
module

public import proofs.«01_k».proof.Proof.Ops

@[expose] public section

noncomputable section

namespace Cert.FlashProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## Loads of a row of a pair of rows, loads and stores of a slot, at the program's spelling of the offsets -/

omit [FloatOps F] [Named F] in
theorem slice_oSlot (m : Memref sig .tc .vmem S8x8x8x128 .bf16) (j : Fin 8) {off : Fin 4 → Nat} (h : off = ![j.val, 0, 0, 0])
    (inb : ∀ a, off a + S1x8x8x128.size a ≤ S8x8x8x128.size a) :
    m.slice (Rect.unit (s := S8x8x8x128) off S1x8x8x128.size inb) (fun _ => rfl) = oSlot m j := by subst h; rfl

/-- A load at a slot's offsets. -/
theorem wp_load_o (c : Dev nD) (m : Memref sig .tc .vmem S8x8x8x128 .bf16) (j : Fin 8) (q : PosShare TreeShare)
    (V : S1x8x8x128.Idx → Elt F .bf16) (off : Fin 4 → Nat) (h : off = ![j.val, 0, 0, 0])
    (inb : ∀ a, off a + S1x8x8x128.size a ≤ S8x8x8x128.size a)
    {hl : m.view.LoadsAt (Rect.unit (s := S8x8x8x128) off S1x8x8x128.size inb).toLoadRect}
    {α : Type} {Q : α → sProp 𝕄} {k : (S1x8x8x128.Idx → Elt F .bf16) → Prog (TpuEff nD τ sig (Elt F) Λ₀ .tc) α} :
    (ownsTc c (oSlot m j) q V : sProp 𝕄)
      ⊢ iprop((ownsTc c (oSlot m j) q V -∗ wpc c (k V) Q)
          -∗ wpc c (.op (.load m (Rect.unit (s := S8x8x8x128) off S1x8x8x128.size inb).toLoadRect hl) k) Q) := by
  subst h
  exact wp_load_slice c m (oRect j) (fun _ => rfl) q V (k := k)

/-- A load of row `r` of a slot's pair of rows. -/
theorem wp_load_r (c : Dev nD) (m : Memref sig .tc .vmem S8x2x8x8 .f32) (j : Fin 8) (r : Fin 2) (q : PosShare TreeShare)
    (V : S1x2x8x8.Idx → Elt F .f32) (off : Fin 4 → Nat) (h : off = ![j.val, r.val, 0, 0])
    (inb : ∀ a, off a + S1x1x8x8.size a ≤ S8x2x8x8.size a)
    {hl : m.view.LoadsAt (Rect.unit (s := S8x2x8x8) off S1x1x8x8.size inb).toLoadRect}
    {α : Type} {Q : α → sProp 𝕄} {k : (S1x1x8x8.Idx → Elt F .f32) → Prog (TpuEff nD τ sig (Elt F) Λ₀ .tc) α} :
    (ownsTc c (sSlot m j) q V : sProp 𝕄)
      ⊢ iprop((ownsTc c (sSlot m j) q V -∗ wpc c (k (rowOf r V)) Q)
          -∗ wpc c (.op (.load m (Rect.unit (s := S8x2x8x8) off S1x1x8x8.size inb).toLoadRect hl) k) Q) := by
  subst h
  unfold ownsTc owns
  iintro ⟨%f, %hf, H⟩ Hk
  have hsub : (m.access (rRect j r)).set ⊆ (sSlot m j).view.set := by
    intro x hx
    obtain ⟨i, -, rfl⟩ := Finset.mem_map.mp hx
    exact Finset.mem_map.mpr ⟨(rowIn r).emb i, Finset.mem_univ _, congrArg m.view.emb (rRect_emb j r i)⟩
  iapply (wp_load_rect 𝒱₀ (c : Thread nD τ) none Set.univ (m := m) (r := rRect j r) (f := f) (q := q) (S := (sSlot m j).view.set) hsub) $$ [H]
  · iexact H
  iintro H
  rw [show (m.access (rRect j r)).read (Elt F) f = rowOf r V from by
    rw [← hf]; funext i
    show m.view.read (Elt F) f ((rRect j r).emb i) = m.view.read (Elt F) f ((sRect j).emb ((rowIn r).emb i))
    rw [rRect_emb]]
  iapply Hk
  iexists f; isplitr
  · ipureintro; exact hf
  · iexact H

/-! ## What a combine waits for and leaves -/

variable (X : Sent F)

/-- The credit for the wait of transfer `x` and the place before it; -/
def wt (c : Dev nD) (x : Key) : sProp 𝕄 := iprop(cred (tallyAt (kcell c x) () (amt x.1)) ∗ atPos ER (kcell c x) 0 ∅ 0)
/-- after the wait: the cell's counter at zero, and what the duty brought. -/
def dn (c : Dev nD) (x : Key) : sProp 𝕄 := iprop(semVal (kcell c x) 0 ∗ dmaPay X c x)

/-- A conjunction over the three peers. -/
def tri (P : Fin 3 → sProp 𝕄) : sProp 𝕄 := iprop(P 0 ∗ P 1 ∗ P 2)

/-- Step `j`'s transfers under way with peer `p`, and landed. -/
def flightP (c : Dev nD) (j : Fin 8) (p : Fin 3) : sProp 𝕄 := iprop(wt c (0, p, j) ∗ wt c (2, p, j) ∗ wt c (1, p, j) ∗ wt c (3, p, j))
def doneP (c : Dev nD) (j : Fin 8) (p : Fin 3) : sProp 𝕄 := iprop(dn X c (0, p, j) ∗ dn X c (2, p, j) ∗ dn X c (1, p, j) ∗ dn X c (3, p, j))
def flight (c : Dev nD) (j : Fin 8) : sProp 𝕄 := tri (flightP c j)
def done (c : Dev nD) (j : Fin 8) : sProp 𝕄 := tri (doneP X c j)

/-- The four waits for the transfers with peer `p`. -/
def waits (p : Fin 3) (off : Fin 2 → Nat) (inb : ∀ k, off k + S1x1.size k ≤ S3x8.size k)
    (wO : Fin 4 → Nat) (inbO : ∀ a, wO a + S1x8x8x128.size a ≤ S8x8x8x128.size a)
    (wS : Fin 4 → Nat) (inbS : ∀ a, wS a + S1x2x8x8.size a ≤ S8x2x8x8.size a)
    (hS : ((oS.slice (Rect.unit (s := S8x8x8x128) wO S1x8x8x128.size inbO) (fun _ => rfl)).squeeze S8x8x128 squeezes_S1x8x8x128_S8x8x128).view.WordExact)
    (hR : (((oR p).slice (Rect.unit (s := S8x8x8x128) wO S1x8x8x128.size inbO) (fun _ => rfl)).squeeze S8x8x128 squeezes_S1x8x8x128_S8x8x128).view.WordExact) :
    Prog (TpuEff nD τ sig (Elt F) Λ₀ .tc) PUnit := do
  Prog.lift (.waitDma2 (((arrs 0).slice (Rect.unit (s := S3x8) off S1x1.size inb)).squeeze S_ squeezes_S1x1_S_).sem
    (((oR p).slice (Rect.unit (s := S8x8x8x128) wO S1x8x8x128.size inbO) (fun _ => rfl)).squeeze S8x8x128 squeezes_S1x8x8x128_S8x8x128)
    ((oS.slice (Rect.unit (s := S8x8x8x128) wO S1x8x8x128.size inbO) (fun _ => rfl)).squeeze S8x8x128 squeezes_S1x8x8x128_S8x8x128) hR hS)
  Prog.lift (.waitDma2 (((arrs 2).slice (Rect.unit (s := S3x8) off S1x1.size inb)).squeeze S_ squeezes_S1x1_S_).sem
    ((oS.slice (Rect.unit (s := S8x8x8x128) wO S1x8x8x128.size inbO) (fun _ => rfl)).squeeze S8x8x128 squeezes_S1x8x8x128_S8x8x128)
    (((oR p).slice (Rect.unit (s := S8x8x8x128) wO S1x8x8x128.size inbO) (fun _ => rfl)).squeeze S8x8x128 squeezes_S1x8x8x128_S8x8x128) hS hR)
  Prog.lift (.waitDma2 (((arrs 1).slice (Rect.unit (s := S3x8) off S1x1.size inb)).squeeze S_ squeezes_S1x1_S_).sem
    (((sR p).slice (Rect.unit (s := S8x2x8x8) wS S1x2x8x8.size inbS) (fun _ => rfl)).squeeze S2x8x8 squeezes_S1x2x8x8_S2x8x8)
    ((sS.slice (Rect.unit (s := S8x2x8x8) wS S1x2x8x8.size inbS) (fun _ => rfl)).squeeze S2x8x8 squeezes_S1x2x8x8_S2x8x8)
    ((View.wordExact_bits rfl).reshape _ _) ((View.wordExact_bits rfl).reshape _ _))
  Prog.lift (.waitDma2 (((arrs 3).slice (Rect.unit (s := S3x8) off S1x1.size inb)).squeeze S_ squeezes_S1x1_S_).sem
    ((sS.slice (Rect.unit (s := S8x2x8x8) wS S1x2x8x8.size inbS) (fun _ => rfl)).squeeze S2x8x8 squeezes_S1x2x8x8_S2x8x8)
    (((sR p).slice (Rect.unit (s := S8x2x8x8) wS S1x2x8x8.size inbS) (fun _ => rfl)).squeeze S2x8x8 squeezes_S1x2x8x8_S2x8x8)
    ((View.wordExact_bits rfl).reshape _ _) ((View.wordExact_bits rfl).reshape _ _))

/-- What a squeezed slot of a block buffer and of a rows buffer credits. -/
theorem credit_oS {off : Fin 4 → Nat} (inb : ∀ a, off a + S1x8x8x128.size a ≤ S8x8x8x128.size a) :
    ((oS.slice (Rect.unit (s := S8x8x8x128) off S1x8x8x128.size inb) (fun _ => rfl)).squeeze S8x8x128 squeezes_S1x8x8x128_S8x8x128).view.dmaCredit = NO := rfl
theorem credit_oR (p : Fin 3) {off : Fin 4 → Nat} (inb : ∀ a, off a + S1x8x8x128.size a ≤ S8x8x8x128.size a) :
    (((oR p).slice (Rect.unit (s := S8x8x8x128) off S1x8x8x128.size inb) (fun _ => rfl)).squeeze S8x8x128 squeezes_S1x8x8x128_S8x8x128).view.dmaCredit = NO := by
  fin_cases p <;> rfl
theorem credit_sS {off : Fin 4 → Nat} (inb : ∀ a, off a + S1x2x8x8.size a ≤ S8x2x8x8.size a) :
    ((sS.slice (Rect.unit (s := S8x2x8x8) off S1x2x8x8.size inb) (fun _ => rfl)).squeeze S2x8x8 squeezes_S1x2x8x8_S2x8x8).view.dmaCredit = NS := rfl
theorem credit_sR (p : Fin 3) {off : Fin 4 → Nat} (inb : ∀ a, off a + S1x2x8x8.size a ≤ S8x2x8x8.size a) :
    (((sR p).slice (Rect.unit (s := S8x2x8x8) off S1x2x8x8.size inb) (fun _ => rfl)).squeeze S2x8x8 squeezes_S1x2x8x8_S2x8x8).view.dmaCredit = NS := by
  fin_cases p <;> rfl

theorem amt0 : amt 0 = NO := rfl
theorem amt1 : amt 1 = NS := rfl
theorem amt2 : amt 2 = NO := rfl
theorem amt3 : amt 3 = NS := rfl

/-- The four waits turn the transfers under way with peer `p` into landed ones. -/
theorem wp_waits (K : GSem nD τ sig → ℕ) (c : Dev nD) (j : Fin 8) (t : ℕ) (ht : t ≤ 8) (hj : j.val < t) (p : Fin 3)
    (off : Fin 2 → Nat) (hoff : off = ![p.val, j.val]) (inb) (wO : Fin 4 → Nat) (inbO) (wS : Fin 4 → Nat) (inbS) (hS) (hR)
    {Q : PUnit → sProp 𝕄} :
    iprop(invs X K ∗ levAts L lv ∗ owesW c (owing c t) ∗ flightP c j p)
      ⊢ iprop(((owesW c (owing c t) ∗ doneP X c j p) -∗ Q ⟨⟩) -∗ wpc c (waits (F := F) p off inb wO inbO wS inbS hS hR) Q) := by
  unfold waits flightP doneP wt dn
  simp only [Prog.lift, Prog.bind_op, Prog.bind_ret, Prog.pure_eq_ret]
  iintro ⟨#HI, #Hlev, HO, ⟨Hc0, Ha0⟩, ⟨Hc2, Ha2⟩, ⟨Hc1, Ha1⟩, ⟨Hc3, Ha3⟩⟩ Hk
  iapply (wp_wait X K c (0, p, j) t ht hj (sem_eq 0 p j hoff inb) (credit_oS inbO |>.trans amt0.symm)) $$ [HO Hc0 Ha0]
  · isplitr; · iexact HI
    isplitr; · iexact Hlev
    isplitl [Hc0]; · iexact Hc0
    isplitl [HO]; · iexact HO
    iexact Ha0
  iintro ⟨HO, H0, P0⟩
  iapply (wp_wait X K c (2, p, j) t ht hj (sem_eq 2 p j hoff inb) (credit_oR p inbO |>.trans amt2.symm)) $$ [HO Hc2 Ha2]
  · isplitr; · iexact HI
    isplitr; · iexact Hlev
    isplitl [Hc2]; · iexact Hc2
    isplitl [HO]; · iexact HO
    iexact Ha2
  iintro ⟨HO, H2, P2⟩
  iapply (wp_wait X K c (1, p, j) t ht hj (sem_eq 1 p j hoff inb) (credit_sS inbS |>.trans amt1.symm)) $$ [HO Hc1 Ha1]
  · isplitr; · iexact HI
    isplitr; · iexact Hlev
    isplitl [Hc1]; · iexact Hc1
    isplitl [HO]; · iexact HO
    iexact Ha1
  iintro ⟨HO, H1, P1⟩
  iapply (wp_wait X K c (3, p, j) t ht hj (sem_eq 3 p j hoff inb) (credit_sR p inbS |>.trans amt3.symm)) $$ [HO Hc3 Ha3]
  · isplitr; · iexact HI
    isplitr; · iexact Hlev
    isplitl [Hc3]; · iexact Hc3
    isplitl [HO]; · iexact HO
    iexact Ha3
  iintro ⟨HO, H3, P3⟩
  simp only [wpc, wp_ret]
  imodintro
  iapply Hk
  isplitl [HO]; · iexact HO
  isplitl [H0 P0]; · isplitl [H0]; · iexact H0
                     iexact P0
  isplitl [H2 P2]; · isplitl [H2]; · iexact H2
                     iexact P2
  isplitl [H1 P1]; · isplitl [H1]; · iexact H1
                     iexact P1
  isplitl [H3]; · iexact H3
  iexact P3

/-- A merge of two sent results, each a block and its two rows. -/
abbrev MergeFn (F : FTy → Type) : Type :=
  (S1x8x8x128.Idx → Elt F .bf16) → (S1x1x8x8.Idx → Elt F .f32) → (S1x1x8x8.Idx → Elt F .f32) →
    (S1x8x8x128.Idx → Elt F .bf16) → (S1x1x8x8.Idx → Elt F .f32) → (S1x1x8x8.Idx → Elt F .f32) → (S1x8x8x128.Idx → Elt F .f32)

/-- The loads and stores of the two merges. -/
def merges (M : Memref sig .tc .vmem S8x8x16x128 .f32) (lO : Fin 4 → Nat) (inbO : ∀ a, lO a + S1x8x8x128.size a ≤ S8x8x8x128.size a)
    (l0 : Fin 4 → Nat) (inb0 : ∀ a, l0 a + S1x1x8x8.size a ≤ S8x2x8x8.size a)
    (l1 : Fin 4 → Nat) (inb1 : ∀ a, l1 a + S1x1x8x8.size a ≤ S8x2x8x8.size a)
    (sA : Fin 4 → Nat) (inbA : ∀ a, sA a + S1x8x8x128.size a ≤ S8x8x16x128.size a)
    (sB : Fin 4 → Nat) (inbB : ∀ a, sB a + S1x8x8x128.size a ≤ S8x8x16x128.size a) (fA fB : MergeFn F) :
    Prog (TpuEff nD τ sig (Elt F) Λ₀ .tc) PUnit := do
  let a : Vec F S1x8x8x128 .bf16 ← Prog.lift (.load oS (Rect.unit (s := S8x8x8x128) lO S1x8x8x128.size inbO).toLoadRect (View.loadsAt_vmem h_S1x8x8x128))
  let a0 : Vec F S1x1x8x8 .f32 ← Prog.lift (.load sS (Rect.unit (s := S8x2x8x8) l0 S1x1x8x8.size inb0).toLoadRect (View.loadsAt_vmem h_S1x1x8x8))
  let a1 : Vec F S1x1x8x8 .f32 ← Prog.lift (.load sS (Rect.unit (s := S8x2x8x8) l1 S1x1x8x8.size inb1).toLoadRect (View.loadsAt_vmem h_S1x1x8x8))
  let b : Vec F S1x8x8x128 .bf16 ← Prog.lift (.load (oR 0) (Rect.unit (s := S8x8x8x128) lO S1x8x8x128.size inbO).toLoadRect (View.loadsAt_vmem h_S1x8x8x128))
  let b0 : Vec F S1x1x8x8 .f32 ← Prog.lift (.load (sR 0) (Rect.unit (s := S8x2x8x8) l0 S1x1x8x8.size inb0).toLoadRect (View.loadsAt_vmem h_S1x1x8x8))
  let b1 : Vec F S1x1x8x8 .f32 ← Prog.lift (.load (sR 0) (Rect.unit (s := S8x2x8x8) l1 S1x1x8x8.size inb1).toLoadRect (View.loadsAt_vmem h_S1x1x8x8))
  let _ : Vec F S1x8x8x128 .f32 ← Prog.lift (.load M (Rect.unit (s := S8x8x16x128) sA S1x8x8x128.size inbA).toLoadRect (View.loadsAt_vmem h_S1x8x8x128))
  Prog.lift (.store M (Rect.unit (s := S8x8x16x128) sA S1x8x8x128.size inbA) (fA a a0 a1 b b0 b1) Finset.univ (View.stores_vmem_bits_univ h_S1x8x8x128 rfl) (.inl rfl))
  let x : Vec F S1x8x8x128 .bf16 ← Prog.lift (.load (oR 1) (Rect.unit (s := S8x8x8x128) lO S1x8x8x128.size inbO).toLoadRect (View.loadsAt_vmem h_S1x8x8x128))
  let x0 : Vec F S1x1x8x8 .f32 ← Prog.lift (.load (sR 1) (Rect.unit (s := S8x2x8x8) l0 S1x1x8x8.size inb0).toLoadRect (View.loadsAt_vmem h_S1x1x8x8))
  let x1 : Vec F S1x1x8x8 .f32 ← Prog.lift (.load (sR 1) (Rect.unit (s := S8x2x8x8) l1 S1x1x8x8.size inb1).toLoadRect (View.loadsAt_vmem h_S1x1x8x8))
  let y : Vec F S1x8x8x128 .bf16 ← Prog.lift (.load (oR 2) (Rect.unit (s := S8x8x8x128) lO S1x8x8x128.size inbO).toLoadRect (View.loadsAt_vmem h_S1x8x8x128))
  let y0 : Vec F S1x1x8x8 .f32 ← Prog.lift (.load (sR 2) (Rect.unit (s := S8x2x8x8) l0 S1x1x8x8.size inb0).toLoadRect (View.loadsAt_vmem h_S1x1x8x8))
  let y1 : Vec F S1x1x8x8 .f32 ← Prog.lift (.load (sR 2) (Rect.unit (s := S8x2x8x8) l1 S1x1x8x8.size inb1).toLoadRect (View.loadsAt_vmem h_S1x1x8x8))
  let _ : Vec F S1x8x8x128 .f32 ← Prog.lift (.load M (Rect.unit (s := S8x8x16x128) sB S1x8x8x128.size inbB).toLoadRect (View.loadsAt_vmem h_S1x8x8x128))
  Prog.lift (.store M (Rect.unit (s := S8x8x16x128) sB S1x8x8x128.size inbB) (fB x x0 x1 y y0 y1) Finset.univ (View.stores_vmem_bits_univ h_S1x8x8x128 rfl) (.inl rfl))

/-- A merge of what devices `d` and `d'` sent at step `j`. -/
def mergeOf (f : MergeFn F) (d d' : Dev nD) (j : Fin 8) : S1x8x8x128.Idx → Elt F .f32 :=
  f (X.o d j) (rowOf 0 (X.s d j)) (rowOf 1 (X.s d j)) (X.o d' j) (rowOf 0 (X.s d' j)) (rowOf 1 (X.s d' j))

/-- The merges of a landed step: the own result with the y neighbour's, the x neighbour's with the diagonal's. -/
theorem wp_merges (c : Dev nD) (j : Fin 8) (M : Memref sig .tc .vmem S8x8x16x128 .f32) (V : S8x8x16x128.Idx → Elt F .f32)
    (lO : Fin 4 → Nat) (hO : lO = ![j.val, 0, 0, 0]) (inbO) (l0 : Fin 4 → Nat) (h0 : l0 = ![j.val, 0, 0, 0]) (inb0)
    (l1 : Fin 4 → Nat) (h1 : l1 = ![j.val, 1, 0, 0]) (inb1) (sA : Fin 4 → Nat) (inbA) (sB : Fin 4 → Nat) (inbB) (fA fB : MergeFn F)
    {Q : PUnit → sProp 𝕄} :
    iprop(done X c j ∗ ownsTc c M fullShare V)
      ⊢ iprop(((done X c j ∗ ownsTc c M fullShare
          ((Rect.unit (s := S8x8x16x128) sB S1x8x8x128.size inbB).overlay
            ((Rect.unit (s := S8x8x16x128) sA S1x8x8x128.size inbA).overlay V (mergeOf X fA c (peer 0 c) j))
            (mergeOf X fB (peer 1 c) (peer 2 c) j))) -∗ Q ⟨⟩)
        -∗ wpc c (merges (F := F) M lO inbO l0 inb0 l1 inb1 sA inbA sB inbB fA fB) Q) := by
  unfold merges done tri doneP dn dmaPay
  simp only [Prog.lift, Prog.bind_op, Prog.bind_ret, Prog.pure_eq_ret]
  iintro ⟨⟨⟨⟨z00, P00⟩, ⟨z20, P20⟩, ⟨z10, P10⟩, ⟨z30, P30⟩⟩, ⟨⟨z01, P01⟩, ⟨z21, P21⟩, ⟨z11, P11⟩, ⟨z31, P31⟩⟩,
    ⟨⟨z02, P02⟩, ⟨z22, P22⟩, ⟨z12, P12⟩, ⟨z32, P32⟩⟩⟩, HM⟩ Hk
  iapply (wp_load_o c oS j (shr 0) (X.o c j) lO hO inbO) $$ P00; iintro P00
  iapply (wp_load_r c sS j 0 (shr 0) (X.s c j) l0 h0 inb0) $$ P10; iintro P10
  iapply (wp_load_r c sS j 1 (shr 0) (X.s c j) l1 h1 inb1) $$ P10; iintro P10
  iapply (wp_load_o c (oR 0) j fullShare (X.o (peer 0 c) j) lO hO inbO) $$ P20; iintro P20
  iapply (wp_load_r c (sR 0) j 0 fullShare (X.s (peer 0 c) j) l0 h0 inb0) $$ P30; iintro P30
  iapply (wp_load_r c (sR 0) j 1 fullShare (X.s (peer 0 c) j) l1 h1 inb1) $$ P30; iintro P30
  iapply (wp_load_part c M (Rect.unit (s := S8x8x16x128) sA S1x8x8x128.size inbA) fullShare V) $$ HM; iintro HM
  iapply (wp_store_part c M (Rect.unit (s := S8x8x16x128) sA S1x8x8x128.size inbA) V) $$ HM; iintro HM
  iapply (wp_load_o c (oR 1) j fullShare (X.o (peer 1 c) j) lO hO inbO) $$ P21; iintro P21
  iapply (wp_load_r c (sR 1) j 0 fullShare (X.s (peer 1 c) j) l0 h0 inb0) $$ P31; iintro P31
  iapply (wp_load_r c (sR 1) j 1 fullShare (X.s (peer 1 c) j) l1 h1 inb1) $$ P31; iintro P31
  iapply (wp_load_o c (oR 2) j fullShare (X.o (peer 2 c) j) lO hO inbO) $$ P22; iintro P22
  iapply (wp_load_r c (sR 2) j 0 fullShare (X.s (peer 2 c) j) l0 h0 inb0) $$ P32; iintro P32
  iapply (wp_load_r c (sR 2) j 1 fullShare (X.s (peer 2 c) j) l1 h1 inb1) $$ P32; iintro P32
  iapply (wp_load_part c M (Rect.unit (s := S8x8x16x128) sB S1x8x8x128.size inbB) fullShare _) $$ HM; iintro HM
  iapply (wp_store_part c M (Rect.unit (s := S8x8x16x128) sB S1x8x8x128.size inbB) _) $$ HM; iintro HM
  simp only [wpc, wp_ret]
  imodintro
  iapply Hk
  isplitr [HM]
  · isplitl [z00 P00 z20 P20 z10 P10 z30 P30]
    · isplitl [z00 P00]; · isplitl [z00]; · iexact z00
                           iexact P00
      isplitl [z20 P20]; · isplitl [z20]; · iexact z20
                           iexact P20
      isplitl [z10 P10]; · isplitl [z10]; · iexact z10
                           iexact P10
      isplitl [z30]; · iexact z30
      iexact P30
    isplitl [z01 P01 z21 P21 z11 P11 z31 P31]
    · isplitl [z01 P01]; · isplitl [z01]; · iexact z01
                           iexact P01
      isplitl [z21 P21]; · isplitl [z21]; · iexact z21
                           iexact P21
      isplitl [z11 P11]; · isplitl [z11]; · iexact z11
                           iexact P11
      isplitl [z31]; · iexact z31
      iexact P31
    isplitl [z02 P02]; · isplitl [z02]; · iexact z02
                         iexact P02
    isplitl [z22 P22]; · isplitl [z22]; · iexact z22
                         iexact P22
    isplitl [z12 P12]; · isplitl [z12]; · iexact z12
                         iexact P12
    isplitl [z32]; · iexact z32
    iexact P32
  · iexact HM

end Cert.FlashProof

end
-- ==== Proof.Send.lean ====
/-
  A grid step up to its sends: the barrier signals and the wait for the peers at the first step, the stores of the step's
  result into the send slots, and the six transfers to the peers.
-/
module

public import proofs.«01_k».proof.Proof.Combine

@[expose] public section

noncomputable section

namespace Cert.FlashProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (X : Sent F)

/-! ## The sends -/

/-- The transfer of a block to peer `p`'s device `n`; -/
def sendO (p : Fin 3) (n : Dev nD) (off : Fin 2 → Nat) (inb : ∀ k, off k + S1x1.size k ≤ S3x8.size k)
    (wO : Fin 4 → Nat) (inbO : ∀ a, wO a + S1x8x8x128.size a ≤ S8x8x8x128.size a)
    (hS : ((oS.slice (Rect.unit (s := S8x8x8x128) wO S1x8x8x128.size inbO) (fun _ => rfl)).squeeze S8x8x128 squeezes_S1x8x8x128_S8x8x128).view.WordExact)
    (hR : (((oR p).slice (Rect.unit (s := S8x8x8x128) wO S1x8x8x128.size inbO) (fun _ => rfl)).squeeze S8x8x128 squeezes_S1x8x8x128_S8x8x128).view.WordExact) :
    Prog (TpuEff nD τ sig (Elt F) Λ₀ .tc) PUnit :=
  Prog.lift (.enqueueDma ((oS.slice (Rect.unit (s := S8x8x8x128) wO S1x8x8x128.size inbO) (fun _ => rfl)).squeeze S8x8x128 squeezes_S1x8x8x128_S8x8x128)
    (.remote (Dev.tc n) (((oR p).slice (Rect.unit (s := S8x8x8x128) wO S1x8x8x128.size inbO) (fun _ => rfl)).squeeze S8x8x128 squeezes_S1x8x8x128_S8x8x128)
      (.dma (((arrs 0).slice (Rect.unit (s := S3x8) off S1x1.size inb)).squeeze S_ squeezes_S1x1_S_).sem) (by fin_cases p <;> rfl))
    (.dma (((arrs 2).slice (Rect.unit (s := S3x8) off S1x1.size inb)).squeeze S_ squeezes_S1x1_S_).sem) hS hR ⟨⟨rfl, Or.inl rfl⟩, trivial⟩)

/-- the transfer of the rows. -/
def sendS (p : Fin 3) (n : Dev nD) (off : Fin 2 → Nat) (inb : ∀ k, off k + S1x1.size k ≤ S3x8.size k)
    (wS : Fin 4 → Nat) (inbS : ∀ a, wS a + S1x2x8x8.size a ≤ S8x2x8x8.size a) :
    Prog (TpuEff nD τ sig (Elt F) Λ₀ .tc) PUnit :=
  Prog.lift (.enqueueDma ((sS.slice (Rect.unit (s := S8x2x8x8) wS S1x2x8x8.size inbS) (fun _ => rfl)).squeeze S2x8x8 squeezes_S1x2x8x8_S2x8x8)
    (.remote (Dev.tc n) (((sR p).slice (Rect.unit (s := S8x2x8x8) wS S1x2x8x8.size inbS) (fun _ => rfl)).squeeze S2x8x8 squeezes_S1x2x8x8_S2x8x8)
      (.dma (((arrs 1).slice (Rect.unit (s := S3x8) off S1x1.size inb)).squeeze S_ squeezes_S1x1_S_).sem) (by fin_cases p <;> rfl))
    (.dma (((arrs 3).slice (Rect.unit (s := S3x8) off S1x1.size inb)).squeeze S_ squeezes_S1x1_S_).sem)
    ((View.wordExact_bits rfl).reshape _ _) ((View.wordExact_bits rfl).reshape _ _) ⟨⟨rfl, Or.inl rfl⟩, trivial⟩)

/-- What a device holds of step `j`'s transfers with peer `p` before they start. -/
def freshP (c : Dev nD) (j : Fin 8) (p : Fin 3) : sProp 𝕄 :=
  iprop((atPos ER (kcell c (0, p, j)) 0 ∅ 0 ∗ dutyTok ER (kcell c (0, p, j)) 0 0 ∗ reached ER (kcell c (0, p, j)) 0)
    ∗ (atPos ER (kcell c (1, p, j)) 0 ∅ 0 ∗ dutyTok ER (kcell c (1, p, j)) 0 0 ∗ reached ER (kcell c (1, p, j)) 0)
    ∗ wt c (2, p, j) ∗ wt c (3, p, j)
    ∗ dutyTok ER (kcell (peer p c) (2, p, j)) 0 0 ∗ dutyTok ER (kcell (peer p c) (3, p, j)) 0 0)

omit [FloatOps F] [Named F] in
theorem dmaPay_landO (p : Fin 3) (c : Dev nD) (j : Fin 8) :
    dmaPay X (peer p c) (2, p, j) = ownsTc (peer p c) (oSlot (oR p) j) fullShare (X.o c j) := by
  show ownsTc (peer p c) (oSlot (oR p) j) fullShare (X.o (peer p (peer p c)) j) = _
  rw [peer_peer]
omit [FloatOps F] [Named F] in
theorem dmaPay_landS (p : Fin 3) (c : Dev nD) (j : Fin 8) :
    dmaPay X (peer p c) (3, p, j) = ownsTc (peer p c) (sSlot (sR p) j) fullShare (X.s c j) := by
  show ownsTc (peer p c) (sSlot (sR p) j) fullShare (X.s (peer p (peer p c)) j) = _
  rw [peer_peer]

/-- The two transfers to peer `p` start: each takes a share of the sent slot and the lent landing slot. -/
theorem wp_sends (K : GSem nD τ sig → ℕ) (c : Dev nD) (j : Fin 8) (p : Fin 3) (n n' : Dev nD) (hn : n = peer p c) (hn' : n' = peer p c)
    (off : Fin 2 → Nat) (hoff : off = ![p.val, j.val]) (inb) (wO : Fin 4 → Nat) (hO : wO = ![j.val, 0, 0, 0]) (inbO)
    (wS : Fin 4 → Nat) (hSo : wS = ![j.val, 0, 0, 0]) (inbS) (hS) (hR) (O : CellTallies nD τ sig Unit)
    {α : Type} {Q : α → sProp 𝕄} {k : PUnit → Prog (TpuEff nD τ sig (Elt F) Λ₀ .tc) α} :
    iprop(invs X K ∗ freshP c j p ∗ lend (peer p c) p j ∗ owesW c (O + tal c 3 p j + tal c 2 p j)
        ∗ ownsTc c (oSlot oS j) (shr p) (X.o c j) ∗ ownsTc c (sSlot sS j) (shr p) (X.s c j))
      ⊢ iprop(((owesW c O ∗ flightP c j p) -∗ wpc c (k ⟨⟩) Q)
        -∗ wpc c ((sendO (F := F) p n off inb wO inbO hS hR).bind fun _ => (sendS (F := F) p n' off inb wS inbS).bind k) Q) := by
  subst hO hSo
  unfold sendO sendS freshP lend flightP wt
  simp only [Prog.lift, Prog.bind_op, Prog.bind_ret, Prog.pure_eq_ret, Prog.bind]
  iintro ⟨#HI, ⟨⟨Ha0, Ht0, #Hr0⟩, ⟨Ha1, Ht1, #Hr1⟩, ⟨Hc2, Ha2⟩, ⟨Hc3, Ha3⟩, Ht2, Ht3⟩, ⟨HlO, HlS, #Hr2, #Hr3⟩, HO, Ho, Hs⟩ Hk
  iapply (wp_xfer X K c p (0, p, j) (2, p, j) n hn (oSlot oS j) (oSlot (oR p) j) squeezes_S1x8x8x128_S8x8x128 (sem_eq 0 p j hoff inb) (sem_eq 2 p j hoff inb)
    ((credit_oR p _).trans amt0.symm) (amt2.trans amt0.symm) (shr p) (X.o c j) rfl (dmaPay_landO X p c j) (O + tal c 3 p j)) $$ [HO Ho HlO Ht0 Ht2]
  · isplitr; · iexact HI
    isplitl [Ho]; · iexact Ho
    isplitl [HlO]; · iexact HlO
    isplitl [HO]; · iexact HO
    isplitl [Ht0]; · iexact Ht0
    isplitr; · iexact Hr0
    isplitl [Ht2]; · iexact Ht2
    iexact Hr2
  iintro ⟨Hc0, HO⟩
  iapply (wp_xfer X K c p (1, p, j) (3, p, j) n' hn' (sSlot sS j) (sSlot (sR p) j) squeezes_S1x2x8x8_S2x8x8 (sem_eq 1 p j hoff inb) (sem_eq 3 p j hoff inb)
    ((credit_sR p _).trans amt1.symm) (amt3.trans amt1.symm) (shr p) (X.s c j) rfl (dmaPay_landS X p c j) O) $$ [HO Hs HlS Ht1 Ht3]
  · isplitr; · iexact HI
    isplitl [Hs]; · iexact Hs
    isplitl [HlS]; · iexact HlS
    isplitl [HO]; · iexact HO
    isplitl [Ht1]; · iexact Ht1
    isplitr; · iexact Hr1
    isplitl [Ht3]; · iexact Ht3
    iexact Hr3
  iintro ⟨Hc1, HO⟩
  iapply Hk
  isplitl [HO]; · iexact HO
  isplitl [Hc0 Ha0]; · isplitl [Hc0]; · iexact Hc0
                       iexact Ha0
  isplitl [Hc2 Ha2]; · isplitl [Hc2]; · iexact Hc2
                       iexact Ha2
  isplitl [Hc1 Ha1]; · isplitl [Hc1]; · iexact Hc1
                       iexact Ha1
  isplitl [Hc3]; · iexact Hc3
  iexact Ha3

/-- Ownership of a slot in three shares, one per peer; -/
theorem owns_three (c : Dev nD) {s : Shape} {e : EltTy} (m : Memref sig .tc .vmem s e) (V : s.Idx → Elt F e) :
    (ownsTc c m fullShare V : sProp 𝕄) ⊢ iprop(ownsTc c m (shr 0) V ∗ ownsTc c m (shr 1) V ∗ ownsTc c m (shr 2) V) := by
  unfold ownsTc shr
  iintro H
  ihave H := (owns_halves (c : Thread nD τ) m _ V).1 $$ H
  icases H with ⟨H0, H⟩
  ihave H := (owns_halves (c : Thread nD τ) m _ V).1 $$ H
  icases H with ⟨H1, H2⟩
  isplitl [H0]; · iexact H0
  isplitl [H1]; · iexact H1
  iexact H2

/-! ## Conditions and offsets of a grid point -/

theorem cond1_iff (i : grid0.Coords) : k0_cond1 i = 1#1 ↔ (i 0).val = 0 := by revert i; decide +kernel
theorem cond3_iff (i : grid0.Coords) : k0_cond3 i = 1#1 ↔ 2 ≤ (i 0).val := by revert i; decide +kernel
theorem cond4_iff (i : grid0.Coords) : k0_cond4 i = 1#1 ↔ (i 0).val = 7 := by revert i; decide +kernel

end Cert.FlashProof

end
-- ==== Proof.Front.lean ====
/-
  A grid step up to its sends: the barrier signals at the first step and the loads of the step's blocks; then the stores of
  the step's result into the send slots, and the wait for the peers at the first step.
-/
module

public import proofs.«01_k».proof.Proof.Send

@[expose] public section

noncomputable section

namespace Cert.FlashProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (X : Sent F)

/-- A unit-stride rectangle of the shape's own sizes places every index at itself. -/
theorem Fin_emb {s : Shape} {off : Fin s.rank → ℕ} (inb : ∀ a, off a + s.size a ≤ s.size a) (z : s.Idx) :
    (Rect.unit off s.size inb).emb z = z :=
  funext fun a => Fin.ext (by
    show off a + 1 * (z a).val = (z a).val
    have := inb a; omega)

/-- A load of everything. -/
theorem wp_load_full (c : Dev nD) (q : PosShare TreeShare) {s : Shape} {e : EltTy} (m : Memref sig .tc .vmem s e) (V : s.Idx → Elt F e)
    (off : Fin s.rank → Nat) (inb : ∀ a, off a + s.size a ≤ s.size a) {hl}
    {α : Type} {Q : α → sProp 𝕄} {k : (s.Idx → Elt F e) → Prog (TpuEff nD τ sig (Elt F) Λ₀ .tc) α} :
    (ownsTc c m q V : sProp 𝕄)
      ⊢ iprop((ownsTc c m q V -∗ wpc c (k V) Q) -∗ wpc c (.op (.load m (Rect.unit (s := s) off s.size inb).toLoadRect hl) k) Q) := by
  have h := wp_load_part c m (Rect.unit (s := s) off s.size inb) q V (hl := hl) (k := k) (Q := Q)
  have e : (fun i => V ((Rect.unit (s := s) off s.size inb).emb i)) = V := funext fun i => congrArg V (Fin_emb inb i)
  rw [e] at h
  exact h

/-! ## The signals and the loads -/

/-- What the barrier unit to peer `p` needs: the duty's token, that its round is open, and the landing buffers for `p`. -/
def barP (c : Dev nD) (p : Fin 3) : sProp 𝕄 :=
  iprop(dutyTok ER (barCell (peer p c)) 0 p ∗ reached ER (barCell (peer p c)) 0 ∗ bigSep Finset.univ fun j => lend c p j)

omit [FloatOps F] [Named F] in
theorem barPay_peer (c : Dev nD) (p : Fin 3) : barPay (F := F) (peer p c) p = bigSep Finset.univ fun j => lend c p j := by
  unfold barPay; rw [peer_peer]

/-- One barrier signal. -/
theorem wp_sig (K : GSem nD τ sig → ℕ) (c : Dev nD) (p : Fin 3) (n : Dev nD) (hn : n = peer p c) (O : CellTallies nD τ sig Unit)
    {α : Type} {Q : α → sProp 𝕄} {k : PUnit → Prog (TpuEff nD τ sig (Elt F) Λ₀ .tc) α} :
    iprop(invs X K ∗ barP c p ∗ owesW c (O + tallyAt (barCell (peer p c)) () 1))
      ⊢ iprop((owesW c O -∗ wpc c (k ⟨⟩) Q) -∗ wpc c (.op (.semSignal (n, .tc) barS (1#32 : BitVec 32).toInt) k) Q) := by
  subst hn
  unfold barP owesW
  iintro ⟨#HI, ⟨Ht, #Hr, Hl⟩, ⟨%W, HO⟩⟩ Hk
  ihave #Hi := (invs_bar X K (peer p c)) $$ HI
  iapply (Rounds.wp_signal 𝒱₀ ER (Rd X) (c : Thread nD τ) none (dst := (peer p c : Thread nD τ)) (κ := K (barCell (peer p c))) (d := p) (r := 0)
    (by rw [duties_bar]; exact Finset.mem_univ p) ((amount_bar X (peer p c) p).trans (by decide)) () O rfl (W := W)) $$ [HO Ht Hl]
  · isplitr; · iexact Hi
    isplitl [HO]; · iexact HO
    isplitl [Ht]; · iexact Ht
    isplitl [Hl]; · rw [payload_bar, barPay_peer]; iexact Hl
    iexact Hr
  iintro HO
  iapply Hk
  iexists W; iexact HO

section Parts
variable (K : GSem nD τ sig → ℕ) (c : Dev nD) (i : grid0.Coords)
  (M1 : Memref sig .tc .smem S1 .i32) (h1 : M1.IsWhole) (M2 : Memref sig .tc .vmem S1x8x8x128 .bf16) (h2 : M2.IsWhole) (M3 : Memref sig .tc .vmem S1x1024x8x128 .bf16) (h3 : M3.IsWhole) (M4 : Memref sig .tc .vmem S1x1024x8x128 .bf16) (h4 : M4.IsWhole) (M5 : Memref sig .tc .vmem S8x8x16x128 .f32) (h5 : M5.IsWhole)
  (q2 q3 q4 : PosShare TreeShare) (V2 : S1x8x8x128.Idx → Elt F .bf16) (V3 V4 : S1x1024x8x128.Idx → Elt F .bf16)

/-- What the first part of a step hands on. -/
def front (c : Dev nD) (i : grid0.Coords) (V2 : S1x8x8x128.Idx → Elt F .bf16) (V3 V4 : S1x1024x8x128.Idx → Elt F .bf16) :
    Σ' (arg0 : BitVec 32) (d0 : Dev nD) (v2 : BitVec 32) (v5 : BitVec 32) (v6 : BitVec 32) (v7 : BitVec 32) (v8 : BitVec 32) (v9 : BitVec 32) (v23 : FVec F S8x8x1 .f32) (v26 : FVec F S8x8x1024 .f32) (v28 : FVec F S8x8x1 .f32), FVec F S1024x8x128 .bf16 :=
  ⟨BitVec.ofNat 32 (i 0).val, c, Scalar.remsi (Scalar.divsi (Dev.word c) 2#32) 2#32, Scalar.remsi (Scalar.divsi (Dev.word c) 1#32) 2#32,
    Scalar.subi 1#32 (Scalar.remsi (Scalar.divsi (Dev.word c) 1#32) 2#32), Scalar.subi 1#32 (Scalar.remsi (Scalar.divsi (Dev.word c) 2#32) 2#32),
    Scalar.subi 1#32 (Scalar.remsi (Scalar.divsi (Dev.word c) 2#32) 2#32), Scalar.subi 1#32 (Scalar.remsi (Scalar.divsi (Dev.word c) 1#32) 2#32),
    k0_pay42 V2 V3, k0_pay43 V2 V3, k0_pay44 V2 V3, k0_pay45 V4⟩

/-- The first part at a later step: the loads. -/
theorem wp_front (hi : (i 0).val ≠ 0) {Q : _ → sProp 𝕄} :
    iprop(ownsTc c M2 q2 V2 ∗ ownsTc c M3 q3 V3 ∗ ownsTc c M4 q4 V4)
      ⊢ iprop(((ownsTc c M2 q2 V2 ∗ ownsTc c M3 q3 V3 ∗ ownsTc c M4 q4 V4) -∗ Q (front c i V2 V3 V4))
        -∗ wpc c (k0_part22 (F := F) i M1 h1 M2 h2 M3 h3 M4 h4 M5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11) Q) := by
  rw [k0_part22_eq_skeleton]; unfold k0_part22_skel front
  simp only [dif_neg (fun h => hi ((cond1_iff i).mp h))]
  simp only [Prog.lift, Prog.bind_op, Prog.bind_ret, Prog.pure_eq_ret, wp_deviceId]
  iintro ⟨H2, H3, H4⟩ Hk
  iapply (wp_load_full c q2 M2 V2) $$ H2; iintro H2
  iapply (wp_load_full c q3 M3 V3) $$ H3; iintro H3
  iapply (wp_load_full c q4 M4 V4) $$ H4; iintro H4
  simp only [wpc, wp_ret]
  imodintro
  iapply Hk
  isplitl [H2]; · iexact H2
  isplitl [H3]; · iexact H3
  iexact H4

/-- The first part at the first step: the barrier units to the peers, then the loads. -/
theorem wp_front0 (hi : (i 0).val = 0) {Q : _ → sProp 𝕄} :
    iprop(invs X K ∗ tri (barP c) ∗ owesW c (O₀ c) ∗ ownsTc c M2 q2 V2 ∗ ownsTc c M3 q3 V3 ∗ ownsTc c M4 q4 V4)
      ⊢ iprop(((owesW c (owing c 0) ∗ ownsTc c M2 q2 V2 ∗ ownsTc c M3 q3 V3 ∗ ownsTc c M4 q4 V4) -∗ Q (front c i V2 V3 V4))
        -∗ wpc c (k0_part22 (F := F) i M1 h1 M2 h2 M3 h3 M4 h4 M5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11) Q) := by
  rw [k0_part22_eq_skeleton]; unfold k0_part22_skel front tri O₀
  have hc : k0_cond1 i = 1#1 := (cond1_iff i).mpr hi
  simp only [dif_pos hc]
  iintro ⟨#HI, ⟨Hb0, Hb1, Hb2⟩, HO, H2, H3, H4⟩ Hk
  simp only [Prog.lift, Prog.bind_op, Prog.bind_ret, Prog.pure_eq_ret, wp_deviceId, semSignalWord]
  iapply (wp_sig X K c 0 _ (dev1_eq c _) (owing c 0 + tallyAt (barCell (peer 2 c)) () 1 + tallyAt (barCell (peer 1 c)) () 1)) $$ [HO Hb0]
  · isplitr; · iexact HI
    isplitl [Hb0]; · iexact Hb0
    iexact HO
  iintro HO
  iapply (wp_sig X K c 1 _ (dev2_eq c _) (owing c 0 + tallyAt (barCell (peer 2 c)) () 1)) $$ [HO Hb1]
  · isplitr; · iexact HI
    isplitl [Hb1]; · iexact Hb1
    iexact HO
  iintro HO
  iapply (wp_sig X K c 2 _ (dev3_eq c _) (owing c 0)) $$ [HO Hb2]
  · isplitr; · iexact HI
    isplitl [Hb2]; · iexact Hb2
    iexact HO
  iintro HO
  iapply (wp_load_full c q2 M2 V2) $$ H2; iintro H2
  iapply (wp_load_full c q3 M3 V3) $$ H3; iintro H3
  iapply (wp_load_full c q4 M4 V4) $$ H4; iintro H4
  simp only [wpc, wp_ret]
  imodintro
  iapply Hk
  isplitl [HO]; · iexact HO
  isplitl [H2]; · iexact H2
  isplitl [H3]; · iexact H3
  iexact H4

end Parts

omit [FloatOps F] [Named F] in
/-- A conjunction over all peers, peer by peer. -/
theorem bigSep_three (P : Fin 3 → sProp 𝕄) : (bigSep Finset.univ P : sProp 𝕄) = tri P := by
  exact BI.bigSep_univ_eq_bigSepL [0, 1, 2] (by decide) (by decide) P
omit [FloatOps F] [Named F] in
theorem tri_of_bigSep (P : Fin 3 → sProp 𝕄) : (bigSep Finset.univ P : sProp 𝕄) ⊢ tri P := Entails.of_eq (bigSep_three P)

theorem cond2_iff (i : grid0.Coords) : Scalar.cmpi .ne (Scalar.extui (Scalar.cmpi .eq (BitVec.ofNat 32 (i 0).val) 0#32) : BitVec 32) 0#32 = 1#1 ↔ (i 0).val = 0 := by
  exact cond1_iff i

/-! ## The stores, and the wait for the peers -/

/-- A store at a slot's offsets. -/
theorem wp_store_o (c : Dev nD) (m : Memref sig .tc .vmem S8x8x8x128 .bf16) (j : Fin 8)
    (V w : S1x8x8x128.Idx → Elt F .bf16) (off : Fin 4 → Nat) (h : off = ![j.val, 0, 0, 0])
    (inb : ∀ a, off a + S1x8x8x128.size a ≤ S8x8x8x128.size a)
    {hx : (m.access (Rect.unit (s := S8x8x8x128) off S1x8x8x128.size inb)).Stores Finset.univ} {hm}
    {α : Type} {Q : α → sProp 𝕄} {k : PUnit → Prog (TpuEff nD τ sig (Elt F) Λ₀ .tc) α} :
    (ownsTc c (oSlot m j) fullShare V : sProp 𝕄)
      ⊢ iprop((ownsTc c (oSlot m j) fullShare w -∗ wpc c (k ⟨⟩) Q)
          -∗ wpc c (.op (.store m (Rect.unit (s := S8x8x8x128) off S1x8x8x128.size inb) w Finset.univ hx hm) k) Q) := by
  subst h
  exact wp_store_slice c m (oRect j) (fun _ => rfl) V w

/-- A store of row `r` of a slot's pair of rows. -/
theorem wp_store_r (c : Dev nD) (m : Memref sig .tc .vmem S8x2x8x8 .f32) (j : Fin 8) (r : Fin 2)
    (V : S1x2x8x8.Idx → Elt F .f32) (w : S1x1x8x8.Idx → Elt F .f32) (off : Fin 4 → Nat) (h : off = ![j.val, r.val, 0, 0])
    (inb : ∀ a, off a + S1x1x8x8.size a ≤ S8x2x8x8.size a)
    {hx : (m.access (Rect.unit (s := S8x2x8x8) off S1x1x8x8.size inb)).Stores Finset.univ} {hm}
    {α : Type} {Q : α → sProp 𝕄} {k : PUnit → Prog (TpuEff nD τ sig (Elt F) Λ₀ .tc) α} :
    (ownsTc c (sSlot m j) fullShare V : sProp 𝕄)
      ⊢ iprop((ownsTc c (sSlot m j) fullShare ((rowIn r).overlay V w) -∗ wpc c (k ⟨⟩) Q)
          -∗ wpc c (.op (.store m (Rect.unit (s := S8x2x8x8) off S1x1x8x8.size inb) w Finset.univ hx hm) k) Q) := by
  subst h
  unfold ownsTc owns
  iintro ⟨%f, %hf, H⟩ Hk
  have hsub : (m.access (rRect j r)).setOn Finset.univ ⊆ (sSlot m j).view.set := by
    rw [View.setOn_univ]
    intro x hx
    obtain ⟨i, -, rfl⟩ := Finset.mem_map.mp hx
    exact Finset.mem_map.mpr ⟨(rowIn r).emb i, Finset.mem_univ _, congrArg m.view.emb (rRect_emb j r i)⟩
  iapply (wp_store 𝒱₀ (c : Thread nD τ) none Set.univ (m := m) (r := rRect j r) (f := f) (S := (sSlot m j).view.set) hsub) $$ [H]
  · iexact H
  iintro H
  iapply Hk
  iexists _; isplitr
  rotate_left
  · iexact H
  · ipureintro
    funext y
    by_cases hy : y ∈ (rowIn r).set
    · obtain ⟨i, rfl⟩ := (rowIn r).exists_idx_of_mem hy
      refine Eq.trans ?_ (Rect.overlay_emb (rowIn r) V w i).symm
      refine Eq.trans ?_ (View.read_slice_write_emb (v := m.view) (rRect j r) f w (Finset.mem_univ i))
      exact congrArg (m.view.read (Elt F) ((m.access (rRect j r)).write (Elt F) f w Finset.univ)) (rRect_emb j r i)
    · rw [Rect.overlay_of_not_mem _ _ _ hy, ← hf]
      refine View.read_slice_write_of_not_mem (v := m.view) (rRect j r) f w _ ?_
      rw [Rect.map_emb_univ]
      intro hm
      obtain ⟨i, hi⟩ := (rRect j r).exists_idx_of_mem hm
      apply hy
      have : (sRect j).emb y = (sRect j).emb ((rowIn r).emb i) := by rw [rRect_emb]; exact hi.symm
      rw [(sRect j).emb.injective this]
      exact (rowIn r).toLoadRect.idx_mem i

/-- What the barrier wait needs, and what it leaves: the peers' landing buffers. -/
def barW (c : Dev nD) : sProp 𝕄 := iprop(cred (tallyAt (barCell c) () 3) ∗ atPos ER (barCell c) 0 ∅ 0)

theorem rowOf_overlay_self {α : Type} (r : Fin 2) (V : S1x2x8x8.Idx → α) (w : S1x1x8x8.Idx → α) : rowOf r ((rowIn r).overlay V w) = w :=
  funext fun i => Rect.overlay_emb (rowIn r) V w i
theorem rowOf_overlay_ne {α : Type} (V : S1x2x8x8.Idx → α) (w : S1x1x8x8.Idx → α) : rowOf 0 ((rowIn 1).overlay V w) = rowOf 0 V :=
  funext fun i => Rect.overlay_of_not_mem _ _ _ (fun hm => by
    obtain ⟨k, hk⟩ := (rowIn 1).exists_idx_of_mem hm
    have h1 : ((rowIn 1).toLoadRect.idx k 1).val = ((rowIn 0).emb i 1).val := congrArg (fun f => (f 1).val) hk
    have h2 : (i 1).val = 0 := by have := (i 1).isLt; simp at this; omega
    have h3 : 1 + 1 * (k 1).val = 0 + 1 * (i 1).val := h1
    omega)

section Parts2
variable (K : GSem nD τ sig → ℕ) (c : Dev nD) (i : grid0.Coords)
  (M1 : Memref sig .tc .smem S1 .i32) (h1 : M1.IsWhole) (M2 : Memref sig .tc .vmem S1x8x8x128 .bf16) (h2 : M2.IsWhole) (M3 : Memref sig .tc .vmem S1x1024x8x128 .bf16) (h3 : M3.IsWhole) (M4 : Memref sig .tc .vmem S1x1024x8x128 .bf16) (h4 : M4.IsWhole) (M5 : Memref sig .tc .vmem S8x8x16x128 .f32) (h5 : M5.IsWhole) (v2 v6 : BitVec 32) (v23 : FVec F S8x8x1 .f32) (v26 : FVec F S8x8x1024 .f32) (v28 : FVec F S8x8x1 .f32) (v30 : FVec F S1024x8x128 .bf16)

/-- Step `j`'s send slots, at any contents. -/
def mine (c : Dev nD) (j : Fin 8) : sProp 𝕄 :=
  iprop((∃ Y, ownsTc c (oSlot oS j) fullShare Y) ∗ (∃ Y, ownsTc c (sSlot sS j) fullShare Y))

/-- The second part at a later step: the stores. -/
theorem wp_store23 (j : Fin 8) (hij : (i 0).val = j.val) (hi : (i 0).val ≠ 0) (ho : X.o c j = k0_pay46 v26 v30)
    (hs0 : rowOf 0 (X.s c j) = k0_pay47 v23) (hs1 : rowOf 1 (X.s c j) = k0_pay48 v28) {Q : _ → sProp 𝕄} :
    mine c j
      ⊢ iprop(((ownsTc c (oSlot oS j) fullShare (X.o c j) ∗ ownsTc c (sSlot sS j) fullShare (X.s c j)) -∗ Q ⟨⟩)
        -∗ wpc c (k0_part23 (F := F) i M1 h1 M2 h2 M3 h3 M4 h4 M5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 (BitVec.ofNat 32 (i 0).val) v2 v6 v23 v26 v28 v30) Q) := by
  rw [k0_part23_eq_skeleton]; unfold k0_part23_skel mine
  simp only [dif_neg (fun h => hi ((cond2_iff i).mp h))]
  simp only [Prog.lift, Prog.bind_op, Prog.bind_ret, Prog.pure_eq_ret]
  iintro ⟨⟨%Yo, Ho⟩, ⟨%Ys, Hs⟩⟩ Hk
  iapply (wp_load_o c oS j fullShare Yo (k0_off1 i) (by rw [k0_off1_eq, hij]) _) $$ Ho; iintro Ho
  iapply (wp_store_o c oS j Yo (k0_pay46 v26 v30) (k0_off1 i) (by rw [k0_off1_eq, hij]) _) $$ Ho; iintro Ho
  iapply (wp_load_r c sS j 0 fullShare Ys (k0_off2 i) (by rw [k0_off2_eq, hij]; rfl) _) $$ Hs; iintro Hs
  iapply (wp_store_r c sS j 0 Ys (k0_pay47 v23) (k0_off2 i) (by rw [k0_off2_eq, hij]; rfl) _) $$ Hs; iintro Hs
  iapply (wp_load_r c sS j 1 fullShare _ (k0_off3 i) (by rw [k0_off3_eq, hij]; rfl) _) $$ Hs; iintro Hs
  iapply (wp_store_r c sS j 1 _ (k0_pay48 v28) (k0_off3 i) (by rw [k0_off3_eq, hij]; rfl) _) $$ Hs; iintro Hs
  simp only [wpc, wp_ret]
  imodintro
  iapply Hk
  isplitl [Ho]; · rw [ho]; iexact Ho
  rw [show X.s c j = (rowIn 1).overlay ((rowIn 0).overlay Ys (k0_pay47 v23)) (k0_pay48 v28) from
    rows_ext (by rw [hs0, rowOf_overlay_ne, rowOf_overlay_self]) (by rw [hs1, rowOf_overlay_self])]
  iexact Hs

/-- The second part at the first step: the stores, then the wait for the three peers, which brings their landing buffers. -/
theorem wp_store23_first (j : Fin 8) (hij : (i 0).val = j.val) (hi : (i 0).val = 0) (ho : X.o c j = k0_pay46 v26 v30)
    (hs0 : rowOf 0 (X.s c j) = k0_pay47 v23) (hs1 : rowOf 1 (X.s c j) = k0_pay48 v28) {Q : _ → sProp 𝕄} :
    iprop(invs X K ∗ levAts L lv ∗ mine c j ∗ owesW c (owing c 0) ∗ barW c)
      ⊢ iprop(((owesW c (owing c 0) ∗ semVal (barCell c) 0 ∗ tri (barPay c)
            ∗ ownsTc c (oSlot oS j) fullShare (X.o c j) ∗ ownsTc c (sSlot sS j) fullShare (X.s c j)) -∗ Q ⟨⟩)
        -∗ wpc c (k0_part23 (F := F) i M1 h1 M2 h2 M3 h3 M4 h4 M5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 (BitVec.ofNat 32 (i 0).val) v2 v6 v23 v26 v28 v30) Q) := by
  rw [k0_part23_eq_skeleton]; unfold k0_part23_skel mine owesW barW
  simp only [dif_pos ((cond2_iff i).mpr hi)]
  simp only [semWaitWord, Prog.lift, Prog.bind_op, Prog.bind_ret, Prog.pure_eq_ret]
  iintro ⟨#HI, #Hlev, ⟨⟨%Yo, Ho⟩, ⟨%Ys, Hs⟩⟩, ⟨%W, HO⟩, Hc, Hat⟩ Hk
  iapply (wp_load_o c oS j fullShare Yo (k0_off1 i) (by rw [k0_off1_eq, hij]) _) $$ Ho; iintro Ho
  iapply (wp_store_o c oS j Yo (k0_pay46 v26 v30) (k0_off1 i) (by rw [k0_off1_eq, hij]) _) $$ Ho; iintro Ho
  iapply (wp_load_r c sS j 0 fullShare Ys (k0_off2 i) (by rw [k0_off2_eq, hij]; rfl) _) $$ Hs; iintro Hs
  iapply (wp_store_r c sS j 0 Ys (k0_pay47 v23) (k0_off2 i) (by rw [k0_off2_eq, hij]; rfl) _) $$ Hs; iintro Hs
  iapply (wp_load_r c sS j 1 fullShare _ (k0_off3 i) (by rw [k0_off3_eq, hij]; rfl) _) $$ Hs; iintro Hs
  iapply (wp_store_r c sS j 1 _ (k0_pay48 v28) (k0_off3 i) (by rw [k0_off3_eq, hij]; rfl) _) $$ Hs; iintro Hs
  ihave #Hi := (invs_bar X K c) $$ HI
  iapply (Rounds.wp_wait_rest_token 𝒱₀ ER (Rd X) (c : Thread nD τ) none (κ := K (barCell c)) (sm := .reg barS)
      (wpE_semWait_eq 𝒱₀ (c : Thread nD τ) none Set.univ) (Set.mem_univ _) () (O := owing c 0) (W := W) (R := 0) (m := 0) (T := ∅)
      (by rw [expect_bar]; decide)) $$ [Hc HO Hat]
  · isplitr; · iexact Hi
    isplitl [Hc]; · iexact Hc
    isplitl [HO]; · iexact HO
    isplitr
    · iapply (mayWait c (.reg barS) 0 (by omega) (by rw [lvl_bar]; omega)); iexact Hlev
    iexact Hat
  iintro ⟨HO, Hat, -, Hpay⟩
  ihave Hp := (Entails.of_eq (rest_bar X c)) $$ Hpay
  imod (close X (K (barCell c)) (barCell c)) $$ [Hat] with Hz
  · isplitr; · iexact Hi
    iexact Hat
  simp only [wpc, wp_ret]
  imodintro
  iapply Hk
  isplitl [HO]; · iexists _; iexact HO
  isplitl [Hz]; · iexact Hz
  isplitl [Hp]; · iapply (tri_of_bigSep (F := F) (barPay c)); iexact Hp
  isplitl [Ho]; · rw [ho]; iexact Ho
  rw [show X.s c j = (rowIn 1).overlay ((rowIn 0).overlay Ys (k0_pay47 v23)) (k0_pay48 v28) from
    rows_ext (by rw [hs0, rowOf_overlay_ne, rowOf_overlay_self]) (by rw [hs1, rowOf_overlay_self])]
  iexact Hs

end Parts2

end Cert.FlashProof

end
-- ==== Proof.Body.lean ====
/-
  A grid step's body, cut into the loads, the stores, the sends and the merges of the steps that have landed.
-/
module

public import proofs.«01_k».proof.Proof.Front

@[expose] public section

noncomputable section

namespace Cert.FlashProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (X : Sent F)

/-! ## The merge -/

/-- The merge of two results over disjoint sets of keys, as the body spells it. -/
def mergeFn : MergeFn F := fun a a0 a1 b b0 b1 => k0_pay28 (k0_pay24 a) (k0_pay25 a0) (k0_pay26 a1) (k0_pay27 b) b0 b1

set_option maxRecDepth 65536 in
theorem merge_own (a : S1x8x8x128.Idx → Elt F .bf16) (a0 a1 : S1x1x8x8.Idx → Elt F .f32) (b : S1x8x8x128.Idx → Elt F .bf16) (b0 b1 : S1x1x8x8.Idx → Elt F .f32) :
    k0_pay12 (k0_pay3 a) (k0_pay5 b) (k0_pay8 a0 b0) (k0_pay9 a0 b0) (k0_pay10 a0 a1 b0) (k0_pay11 a0 b0 b1) = mergeFn a a0 a1 b b0 b1 := rfl
set_option maxRecDepth 65536 in
theorem merge_other (a : S1x8x8x128.Idx → Elt F .bf16) (a0 a1 : S1x1x8x8.Idx → Elt F .f32) (b : S1x8x8x128.Idx → Elt F .bf16) (b0 b1 : S1x1x8x8.Idx → Elt F .f32) :
    k0_pay1 (k0_pay20 (k0_pay14 a0) (k0_pay15 a1) b0 b1) (k0_pay21 (k0_pay13 a) (k0_pay14 a0) b0) (k0_pay22 b) (k0_pay23 (k0_pay14 a0) b0) = mergeFn a a0 a1 b b0 b1 := rfl
set_option maxRecDepth 65536 in
theorem merge_six (a : S1x8x8x128.Idx → Elt F .bf16) (a0 a1 : S1x1x8x8.Idx → Elt F .f32) (b : S1x8x8x128.Idx → Elt F .bf16) (b0 b1 : S1x1x8x8.Idx → Elt F .f32) :
    k0_pay31 (k0_pay29 a) (k0_pay30 a0) a1 b b0 b1 = mergeFn a a0 a1 b b0 b1 := rfl
set_option maxRecDepth 65536 in
theorem merge_seven (a : S1x8x8x128.Idx → Elt F .bf16) (a0 a1 : S1x1x8x8.Idx → Elt F .f32) (b : S1x8x8x128.Idx → Elt F .bf16) (b0 b1 : S1x1x8x8.Idx → Elt F .f32) :
    k0_pay36 (k0_pay32 a) (k0_pay33 a0) (k0_pay34 a1) (k0_pay35 b) b0 b1 = mergeFn a a0 a1 b b0 b1 := rfl
set_option maxRecDepth 65536 in
theorem merge_seven_other (a : S1x8x8x128.Idx → Elt F .bf16) (a0 a1 : S1x1x8x8.Idx → Elt F .f32) (b : S1x8x8x128.Idx → Elt F .bf16) (b0 b1 : S1x1x8x8.Idx → Elt F .f32) :
    k0_pay2 (k0_pay40 (k0_pay37 a) (k0_pay38 a0) (k0_pay39 a1) b b0 b1) = mergeFn a a0 a1 b b0 b1 := rfl

/-! ## Where the step before the last but one lies -/

theorem off9_eq : ∀ i : grid0.Coords, k0_cond3 i = 1#1 → k0_off9 i = ![0, (i 0).val - 2] := by decide +kernel
theorem off10_eq : ∀ i : grid0.Coords, k0_cond3 i = 1#1 → k0_off10 i = ![(i 0).val - 2, 0, 0, 0] := by decide +kernel
theorem off11_eq : ∀ i : grid0.Coords, k0_cond3 i = 1#1 → k0_off11 i = ![(i 0).val - 2, 0, 0, 0] := by decide +kernel
theorem off12_eq : ∀ i : grid0.Coords, k0_cond3 i = 1#1 → k0_off12 i = ![1, (i 0).val - 2] := by decide +kernel
theorem off13_eq : ∀ i : grid0.Coords, k0_cond3 i = 1#1 → k0_off13 i = ![2, (i 0).val - 2] := by decide +kernel
theorem off14_eq : ∀ i : grid0.Coords, k0_cond3 i = 1#1 → k0_off14 i = ![(i 0).val - 2, 0, 0, 0] := by decide +kernel
theorem off15_eq : ∀ i : grid0.Coords, k0_cond3 i = 1#1 → k0_off15 i = ![(i 0).val - 2, 0, 0, 0] := by decide +kernel
theorem off16_eq : ∀ i : grid0.Coords, k0_cond3 i = 1#1 → k0_off16 i = ![(i 0).val - 2, 1, 0, 0] := by decide +kernel
theorem off17_eq : ∀ (i : grid0.Coords) (d : Dev nD), k0_cond3 i = 1#1 → k0_off17 i d = ![4 * (d.val / 2) + ((i 0).val - 2) / 2, 0, 8 * (((i 0).val - 2) % 2), 0] := by decide +kernel
theorem off18_eq : ∀ (i : grid0.Coords) (d : Dev nD), k0_cond3 i = 1#1 → k0_off18 i d = ![4 * (1 - d.val / 2) + ((i 0).val - 2) / 2, 0, 8 * (((i 0).val - 2) % 2), 0] := by decide +kernel

/-! ## The programs -/

/-- The waits for all three peers, then the merges. -/
def comb (M : Memref sig .tc .vmem S8x8x16x128 .f32)
    (o0 : Fin 2 → Nat) (i0 : ∀ k, o0 k + S1x1.size k ≤ S3x8.size k) (o1 : Fin 2 → Nat) (i1 : ∀ k, o1 k + S1x1.size k ≤ S3x8.size k)
    (o2 : Fin 2 → Nat) (i2 : ∀ k, o2 k + S1x1.size k ≤ S3x8.size k)
    (wO : Fin 4 → Nat) (inbO : ∀ a, wO a + S1x8x8x128.size a ≤ S8x8x8x128.size a)
    (wS : Fin 4 → Nat) (inbS : ∀ a, wS a + S1x2x8x8.size a ≤ S8x2x8x8.size a)
    (hS : ((oS.slice (Rect.unit (s := S8x8x8x128) wO S1x8x8x128.size inbO) (fun _ => rfl)).squeeze S8x8x128 squeezes_S1x8x8x128_S8x8x128).view.WordExact)
    (hR : ∀ p, (((oR p).slice (Rect.unit (s := S8x8x8x128) wO S1x8x8x128.size inbO) (fun _ => rfl)).squeeze S8x8x128 squeezes_S1x8x8x128_S8x8x128).view.WordExact)
    (lO : Fin 4 → Nat) (jnbO : ∀ a, lO a + S1x8x8x128.size a ≤ S8x8x8x128.size a)
    (l0 : Fin 4 → Nat) (inb0 : ∀ a, l0 a + S1x1x8x8.size a ≤ S8x2x8x8.size a)
    (l1 : Fin 4 → Nat) (inb1 : ∀ a, l1 a + S1x1x8x8.size a ≤ S8x2x8x8.size a)
    (sA : Fin 4 → Nat) (inbA : ∀ a, sA a + S1x8x8x128.size a ≤ S8x8x16x128.size a)
    (sB : Fin 4 → Nat) (inbB : ∀ a, sB a + S1x8x8x128.size a ≤ S8x8x16x128.size a) (fA fB : MergeFn F) :
    Prog (TpuEff nD τ sig (Elt F) Λ₀ .tc) PUnit :=
  (waits (F := F) 0 o0 i0 wO inbO wS inbS hS (hR 0)).bind fun _ =>
  (waits (F := F) 1 o1 i1 wO inbO wS inbS hS (hR 1)).bind fun _ =>
  (waits (F := F) 2 o2 i2 wO inbO wS inbS hS (hR 2)).bind fun _ =>
  merges (F := F) M lO jnbO l0 inb0 l1 inb1 sA inbA sB inbB fA fB

theorem words_oR (p : Fin 3) {wO : Fin 4 → Nat} {inbO : ∀ a, wO a + S1x8x8x128.size a ≤ S8x8x8x128.size a}
    (h : (Rect.unit (s := S8x8x8x128) wO S1x8x8x128.size inbO).WholeWords (EltTy.packing .bf16)) :
    (((oR p).slice (Rect.unit (s := S8x8x8x128) wO S1x8x8x128.size inbO) (fun _ => rfl)).squeeze S8x8x128 squeezes_S1x8x8x128_S8x8x128).view.WordExact := by
  fin_cases p
  · exact ((Memref.isWhole_whole (κ := .tc) cc0_scratch2).wordExact_slice rfl _ h).reshape _ _
  · exact ((Memref.isWhole_whole (κ := .tc) cc0_scratch4).wordExact_slice rfl _ h).reshape _ _
  · exact ((Memref.isWhole_whole (κ := .tc) cc0_scratch6).wordExact_slice rfl _ h).reshape _ _
theorem words_oS {wO : Fin 4 → Nat} {inbO : ∀ a, wO a + S1x8x8x128.size a ≤ S8x8x8x128.size a}
    (h : (Rect.unit (s := S8x8x8x128) wO S1x8x8x128.size inbO).WholeWords (EltTy.packing .bf16)) :
    ((oS.slice (Rect.unit (s := S8x8x8x128) wO S1x8x8x128.size inbO) (fun _ => rfl)).squeeze S8x8x128 squeezes_S1x8x8x128_S8x8x128).view.WordExact :=
  ((Memref.isWhole_whole (κ := .tc) cc0_scratch0).wordExact_slice rfl _ h).reshape _ _

/-- The merges of the step before the last but one; -/
def comb3 (M : Memref sig .tc .vmem S8x8x16x128 .f32) (i : grid0.Coords) (d : Dev nD) (h : k0_cond3 i = 1#1) : Prog (TpuEff nD τ sig (Elt F) Λ₀ .tc) PUnit :=
  comb (F := F) M (k0_off9 i) (k0_off9_inb i h) (k0_off12 i) (k0_off12_inb i h) (k0_off13 i) (k0_off13_inb i h) (k0_off10 i) (k0_off10_inb i h)
    (k0_off11 i) (k0_off11_inb i h) (words_oS (k0_off10_wordsbf16 i h)) (fun p => words_oR p (k0_off10_wordsbf16 i h))
    (k0_off14 i) (k0_off14_inb i h) (k0_off15 i) (k0_off15_inb i h) (k0_off16 i) (k0_off16_inb i h)
    (k0_off17 i d) (k0_off17_inb i d h) (k0_off18 i d) (k0_off18_inb i d h)
    (fun a a0 a1 b b0 b1 => k0_pay12 (k0_pay3 a) (k0_pay5 b) (k0_pay8 a0 b0) (k0_pay9 a0 b0) (k0_pay10 a0 a1 b0) (k0_pay11 a0 b0 b1))
    (fun a a0 a1 b b0 b1 => k0_pay1 (k0_pay20 (k0_pay14 a0) (k0_pay15 a1) b0 b1) (k0_pay21 (k0_pay13 a) (k0_pay14 a0) b0) (k0_pay22 b) (k0_pay23 (k0_pay14 a0) b0))

/-- the merges of step 6 at the last step; -/
def comb6 (M : Memref sig .tc .vmem S8x8x16x128 .f32) (i : grid0.Coords) (d : Dev nD) (h : k0_cond4 i = 1#1) : Prog (TpuEff nD τ sig (Elt F) Λ₀ .tc) PUnit :=
  comb (F := F) M ![0, 6] inb_S3x8_S1x1_0_6 ![1, 6] inb_S3x8_S1x1_1_6 ![2, 6] inb_S3x8_S1x1_2_6 ![6, 0, 0, 0] inb_S8x8x8x128_S1x8x8x128_6_0_0_0
    ![6, 0, 0, 0] inb_S8x2x8x8_S1x2x8x8_6_0_0_0 (words_oS wordsbf16_S8x8x8x128_S1x8x8x128_6_0_0_0) (fun p => words_oR p wordsbf16_S8x8x8x128_S1x8x8x128_6_0_0_0)
    ![6, 0, 0, 0] inb_S8x8x8x128_S1x8x8x128_6_0_0_0 ![6, 0, 0, 0] inb_S8x2x8x8_S1x1x8x8_6_0_0_0 ![6, 1, 0, 0] inb_S8x2x8x8_S1x1x8x8_6_1_0_0
    (k0_off19 d) (k0_off19_inb i d h) (k0_off20 d) (k0_off20_inb i d h)
    (fun a a0 a1 b b0 b1 => k0_pay28 (k0_pay24 a) (k0_pay25 a0) (k0_pay26 a1) (k0_pay27 b) b0 b1)
    (fun a a0 a1 b b0 b1 => k0_pay31 (k0_pay29 a) (k0_pay30 a0) a1 b b0 b1)

/-- and of step 7. -/
def comb7 (M : Memref sig .tc .vmem S8x8x16x128 .f32) (i : grid0.Coords) (d : Dev nD) (h : k0_cond4 i = 1#1) : Prog (TpuEff nD τ sig (Elt F) Λ₀ .tc) PUnit :=
  comb (F := F) M ![0, 7] inb_S3x8_S1x1_0_7 ![1, 7] inb_S3x8_S1x1_1_7 ![2, 7] inb_S3x8_S1x1_2_7 ![7, 0, 0, 0] inb_S8x8x8x128_S1x8x8x128_7_0_0_0
    ![7, 0, 0, 0] inb_S8x2x8x8_S1x2x8x8_7_0_0_0 (words_oS wordsbf16_S8x8x8x128_S1x8x8x128_7_0_0_0) (fun p => words_oR p wordsbf16_S8x8x8x128_S1x8x8x128_7_0_0_0)
    ![7, 0, 0, 0] inb_S8x8x8x128_S1x8x8x128_7_0_0_0 ![7, 0, 0, 0] inb_S8x2x8x8_S1x1x8x8_7_0_0_0 ![7, 1, 0, 0] inb_S8x2x8x8_S1x1x8x8_7_1_0_0
    (k0_off21 d) (k0_off21_inb i d h) (k0_off22 d) (k0_off22_inb i d h)
    (fun a a0 a1 b b0 b1 => k0_pay36 (k0_pay32 a) (k0_pay33 a0) (k0_pay34 a1) (k0_pay35 b) b0 b1)
    (fun a a0 a1 b b0 b1 => k0_pay2 (k0_pay40 (k0_pay37 a) (k0_pay38 a0) (k0_pay39 a1) b b0 b1))

/-- The six transfers of a step, then `k`. -/
def sends (i : grid0.Coords) (d : Dev nD) {α : Type} (k : PUnit → Prog (TpuEff nD τ sig (Elt F) Λ₀ .tc) α) : Prog (TpuEff nD τ sig (Elt F) Λ₀ .tc) α :=
  (sendO (F := F) 0 ⟨k0_dev4 d, k0_dev4_lt d⟩ (k0_off4 i) (k0_off4_inb i) (k0_off5 i) (k0_off5_inb i) (words_oS (k0_off5_wordsbf16 i)) (words_oR 0 (k0_off5_wordsbf16 i))).bind fun _ =>
  (sendS (F := F) 0 ⟨k0_dev5 d, k0_dev5_lt d⟩ (k0_off4 i) (k0_off4_inb i) (k0_off6 i) (k0_off6_inb i)).bind fun _ =>
  (sendO (F := F) 1 ⟨k0_dev6 d, k0_dev6_lt d⟩ (k0_off7 i) (k0_off7_inb i) (k0_off5 i) (k0_off5_inb i) (words_oS (k0_off5_wordsbf16 i)) (words_oR 1 (k0_off5_wordsbf16 i))).bind fun _ =>
  (sendS (F := F) 1 ⟨k0_dev7 d, k0_dev7_lt d⟩ (k0_off7 i) (k0_off7_inb i) (k0_off6 i) (k0_off6_inb i)).bind fun _ =>
  (sendO (F := F) 2 ⟨k0_dev8 d, k0_dev8_lt d⟩ (k0_off8 i) (k0_off8_inb i) (k0_off5 i) (k0_off5_inb i) (words_oS (k0_off5_wordsbf16 i)) (words_oR 2 (k0_off5_wordsbf16 i))).bind fun _ =>
  (sendS (F := F) 2 ⟨k0_dev9 d, k0_dev9_lt d⟩ (k0_off8 i) (k0_off8_inb i) (k0_off6 i) (k0_off6_inb i)).bind k

/-- The last step's merges. -/
def rest4 (M : Memref sig .tc .vmem S8x8x16x128 .f32) (i : grid0.Coords) (d : Dev nD) : Prog (TpuEff nD τ sig (Elt F) Λ₀ .tc) PUnit :=
  if h : k0_cond4 i = 1#1 then (comb6 (F := F) M i d h).bind fun _ => comb7 (F := F) M i d h else pure ⟨⟩

/-- What follows a step's stores. -/
def rest (M : Memref sig .tc .vmem S8x8x16x128 .f32) (i : grid0.Coords) (d : Dev nD) : Prog (TpuEff nD τ sig (Elt F) Λ₀ .tc) PUnit :=
  sends (F := F) i d fun _ =>
    if h : k0_cond3 i = 1#1 then (comb3 (F := F) M i d h).bind fun _ => rest4 (F := F) M i d else rest4 (F := F) M i d

section Split
variable (i : grid0.Coords) (M1 : Memref sig .tc .smem S1 .i32) (h1 : M1.IsWhole) (M2 : Memref sig .tc .vmem S1x8x8x128 .bf16) (h2 : M2.IsWhole) (M3 : Memref sig .tc .vmem S1x1024x8x128 .bf16) (h3 : M3.IsWhole) (M4 : Memref sig .tc .vmem S1x1024x8x128 .bf16) (h4 : M4.IsWhole) (M5 : Memref sig .tc .vmem S8x8x16x128 .f32) (h5 : M5.IsWhole)

set_option maxRecDepth 65536 in
theorem head_eq (r : Σ' (arg0 : BitVec 32) (d0 : Dev nD) (v2 : BitVec 32) (v5 : BitVec 32) (v6 : BitVec 32) (v7 : BitVec 32) (v8 : BitVec 32) (v9 : BitVec 32) (v23 : FVec F S8x8x1 .f32) (v26 : FVec F S8x8x1024 .f32) (v28 : FVec F S8x8x1 .f32), FVec F S1024x8x128 .bf16) (k : PUnit → Prog (TpuEff nD τ sig (Elt F) Λ₀ .tc) PUnit) :
    ((k0_part24 (F := F) i M1 h1 M2 h2 M3 h3 M4 h4 M5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 r.2.1 r.2.2.1 r.2.2.2.1 r.2.2.2.2.1 r.2.2.2.2.2.1).bind fun _ =>
      (k0_part25 (F := F) i M1 h1 M2 h2 M3 h3 M4 h4 M5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 r.2.1 r.2.2.2.2.2.2.1 r.2.2.2.2.2.2.2.1).bind fun _ =>
      (sendS (F := F) 2 ⟨k0_dev9 r.2.1, k0_dev9_lt r.2.1⟩ (k0_off8 i) (k0_off8_inb i) (k0_off6 i) (k0_off6_inb i)).bind k) = sends (F := F) i r.2.1 k := by
  rw [k0_part24_eq_skeleton, k0_part25_eq_skeleton]
  unfold k0_part24_skel k0_part25_skel sends sendO sendS
  simp only [Prog.lift, Prog.bind_op, Prog.bind_ret, Prog.pure_eq_ret, Prog.bind]

set_option maxRecDepth 65536 in
/-- A step's body is the loads, the stores, then `rest`. -/
theorem body_eq : cc0__body (F := F) i M1 h1 M2 h2 M3 h3 M4 h4 M5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 =
    (k0_part22 (F := F) i M1 h1 M2 h2 M3 h3 M4 h4 M5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11).bind fun r =>
      (k0_part23 (F := F) i M1 h1 M2 h2 M3 h3 M4 h4 M5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 r.1 r.2.2.1 r.2.2.2.2.1 r.2.2.2.2.2.2.2.2.1 r.2.2.2.2.2.2.2.2.2.1 r.2.2.2.2.2.2.2.2.2.2.1 r.2.2.2.2.2.2.2.2.2.2.2).bind fun _ =>
        rest (F := F) M5 i r.2.1 := by
  rw [cc0__body_eq_skeleton]
  unfold cc0__body_skel rest
  refine congrArg (Prog.bind _) (funext fun r => ?_)
  obtain ⟨arg0, d0, v2, v5, v6, v7, v8, v9, v23, v26, v28, v30⟩ := r
  refine congrArg (Prog.bind _) (funext fun _ => ?_)
  refine Eq.trans ?_ (head_eq i M1 h1 M2 h2 M3 h3 M4 h4 M5 h5 ⟨arg0, d0, v2, v5, v6, v7, v8, v9, v23, v26, v28, v30⟩ _)
  refine congrArg (Prog.bind _) (funext fun _ => ?_)
  refine congrArg (Prog.bind _) (funext fun _ => ?_)
  refine congrArg (Prog.bind _) (funext fun _ => ?_)
  unfold rest4
  by_cases h : k0_cond3 i = 1#1 <;> by_cases h' : k0_cond4 i = 1#1
  · simp only [dif_pos h, dif_pos h']
    rw [k0_part1_eq_skeleton, k0_part2_eq_skeleton, k0_part3_eq_skeleton, k0_part4_eq_skeleton, k0_part5_eq_skeleton, k0_part6_eq_skeleton, k0_part7_eq_skeleton]
    unfold k0_part1_skel k0_part2_skel k0_part3_skel k0_part4_skel k0_part5_skel k0_part6_skel k0_part7_skel comb3
    rw [k0_part21_eq_skeleton]
    unfold k0_part21_skel
    rw [k0_part8_eq_skeleton, k0_part9_eq_skeleton, k0_part10_eq_skeleton, k0_part11_eq_skeleton, k0_part12_eq_skeleton, k0_part13_eq_skeleton, k0_part14_eq_skeleton,
      k0_part15_eq_skeleton, k0_part16_eq_skeleton, k0_part17_eq_skeleton, k0_part18_eq_skeleton, k0_part19_eq_skeleton, k0_part20_eq_skeleton]
    unfold k0_part8_skel k0_part9_skel k0_part10_skel k0_part11_skel k0_part12_skel k0_part13_skel k0_part14_skel
      k0_part15_skel k0_part16_skel k0_part17_skel k0_part18_skel k0_part19_skel k0_part20_skel comb6 comb7
    unfold comb waits merges
    simp only [Prog.lift, Prog.bind_op, Prog.bind_ret, Prog.pure_eq_ret, Prog.bind]
  · simp only [dif_pos h, dif_neg h']
    rw [k0_part1_eq_skeleton, k0_part2_eq_skeleton, k0_part3_eq_skeleton, k0_part4_eq_skeleton, k0_part5_eq_skeleton, k0_part6_eq_skeleton, k0_part7_eq_skeleton]
    unfold k0_part1_skel k0_part2_skel k0_part3_skel k0_part4_skel k0_part5_skel k0_part6_skel k0_part7_skel comb3
    unfold comb waits merges
    simp only [Prog.lift, Prog.bind_op, Prog.bind_ret, Prog.pure_eq_ret, Prog.bind]
  · simp only [dif_neg h, dif_pos h']
    rw [k0_part21_eq_skeleton]
    unfold k0_part21_skel
    rw [k0_part8_eq_skeleton, k0_part9_eq_skeleton, k0_part10_eq_skeleton, k0_part11_eq_skeleton, k0_part12_eq_skeleton, k0_part13_eq_skeleton, k0_part14_eq_skeleton,
      k0_part15_eq_skeleton, k0_part16_eq_skeleton, k0_part17_eq_skeleton, k0_part18_eq_skeleton, k0_part19_eq_skeleton, k0_part20_eq_skeleton]
    unfold k0_part8_skel k0_part9_skel k0_part10_skel k0_part11_skel k0_part12_skel k0_part13_skel k0_part14_skel
      k0_part15_skel k0_part16_skel k0_part17_skel k0_part18_skel k0_part19_skel k0_part20_skel comb6 comb7
    unfold comb waits merges
    simp only [Prog.lift, Prog.bind_op, Prog.bind_ret, Prog.pure_eq_ret, Prog.bind]
  · simp only [dif_neg h, dif_neg h']
end Split

end Cert.FlashProof

end
-- ==== Proof.Step.lean ====
/-
  One grid step over the protocol: what a device holds of each step's transfers before and after it, and what the step
  leaves in the output block.
-/
module

public import proofs.«01_k».proof.Proof.Body

@[expose] public section

noncomputable section

namespace Cert.FlashProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (X : Sent F)

/-! ## The output block -/

/-- Where step `j`'s merge lies in the output: half 0 is the batch of the device's own x, half 1 that of the other x. -/
def outOff (c : Dev nD) (j : Fin 8) (h : Fin 2) : Fin 4 → ℕ :=
  ![4 * (if h = 0 then c.val / 2 else 1 - c.val / 2) + j.val / 2, 0, 8 * (j.val % 2), 0]
theorem outOff_inb : ∀ (c : Dev nD) (j : Fin 8) (h : Fin 2) (a), outOff c j h a + S1x8x8x128.size a ≤ S8x8x16x128.size a := by decide +kernel
abbrev outRect (c : Dev nD) (j : Fin 8) (h : Fin 2) : Rect S8x8x16x128 := Rect.unit (s := S8x8x16x128) (outOff c j h) S1x8x8x128.size (outOff_inb c j h)

/-- What step `j` merges into each half. -/
def res (c : Dev nD) (j : Fin 8) (h : Fin 2) : S1x8x8x128.Idx → Elt F .f32 :=
  match h with
  | 0 => mergeOf X mergeFn c (peer 0 c) j
  | 1 => mergeOf X mergeFn (peer 1 c) (peer 2 c) j

/-- The block `V` holds the merges of the steps in `S`. -/
def Has (c : Dev nD) (S : Fin 8 → Prop) (V : S8x8x16x128.Idx → Elt F .f32) : Prop :=
  ∀ j, S j → ∀ h z, V ((outRect c j h).emb z) = res X c j h z

/-- Different merges lie apart. -/
theorem out_apart (c : Dev nD) (j j' : Fin 8) (h h' : Fin 2) (hne : (j, h) ≠ (j', h')) (z : S1x8x8x128.Idx) : (outRect c j h).emb z ∉ (outRect c j' h').set := by
  intro hm
  obtain ⟨k, hk⟩ := (outRect c j' h').exists_idx_of_mem hm
  have e0 : outOff c j' h' 0 + 1 * (k 0).val = outOff c j h 0 + 1 * (z 0).val := congrArg (fun f => (f 0).val) hk
  have e2 : outOff c j' h' 2 + 1 * (k 2).val = outOff c j h 2 + 1 * (z 2).val := congrArg (fun f => (f 2).val) hk
  have a0 : (k 0).val < 1 := (k 0).isLt
  have b0 : (z 0).val < 1 := (z 0).isLt
  have a2 : (k 2).val < 8 := (k 2).isLt
  have b2 : (z 2).val < 8 := (z 2).isLt
  have hc : c.val < 4 := c.isLt
  have hj : j.val < 8 := j.isLt
  have hj' : j'.val < 8 := j'.isLt
  simp only [outOff, Matrix.cons_val_zero, Matrix.cons_val] at e0 e2
  apply hne
  have eh : h = h' := by
    fin_cases h <;> fin_cases h' <;> simp at e0 ⊢ <;> omega
  subst eh
  have ej : j = j' := by
    apply Fin.ext
    split at e0 <;> omega
  rw [ej]

omit [FloatOps F] [Named F] in
theorem overlay_other (c : Dev nD) (j j' : Fin 8) (h h' : Fin 2) (hne : (j, h) ≠ (j', h')) (V : S8x8x16x128.Idx → Elt F .f32) (w : S1x8x8x128.Idx → Elt F .f32) (z : S1x8x8x128.Idx) :
    (outRect c j' h').overlay V w ((outRect c j h).emb z) = V ((outRect c j h).emb z) :=
  Rect.overlay_of_not_mem _ _ _ (out_apart c j j' h h' hne z)

/-- Writing step `j`'s merges adds them. -/
theorem has_write (c : Dev nD) (j : Fin 8) (S : Fin 8 → Prop) (V : S8x8x16x128.Idx → Elt F .f32) (hV : Has X c S V) :
    Has X c (fun j' => S j' ∨ j' = j) ((outRect c j 1).overlay ((outRect c j 0).overlay V (res X c j 0)) (res X c j 1)) := by
  intro j' hj' h z
  by_cases e : j' = j
  · subst e
    fin_cases h
    · exact (overlay_other c j' j' 0 1 (by simp) _ _ z).trans (Rect.overlay_emb (outRect c j' 0) V _ z)
    · exact Rect.overlay_emb (outRect c j' 1) _ _ z
  · have hS : S j' := hj'.resolve_right e
    rw [overlay_other c j' j h 1 (by simp [e]), overlay_other c j' j h 0 (by simp [e])]
    exact hV j' hS h z

theorem Has.mono {c : Dev nD} {S T : Fin 8 → Prop} {V : S8x8x16x128.Idx → Elt F .f32} (hV : Has X c S V) (h : ∀ j, T j → S j) : Has X c T V :=
  fun j hj => hV j (h j hj)

/-! ## The transfers -/

/-- What a device holds of step `j`'s transfers before the step. -/
def fresh (c : Dev nD) (j : Fin 8) : sProp 𝕄 :=
  iprop(mine c j ∗ tri (freshP c j) ∗ tri (fun p => lend (peer p c) p j))

/-- What it holds of them before step `t`. -/
def stage (c : Dev nD) (t : ℕ) (j : Fin 8) : sProp 𝕄 :=
  if j.val < t then (if j.val + 2 < t ∨ t = 8 then done X c j else flight c j) else fresh c j

omit [FloatOps F] [Named F] in
/-- One factor of a conjunction is taken out and another put back. -/
theorem swap (P : Fin 8 → sProp 𝕄) (j : Fin 8) (R : sProp 𝕄) :
    (bigSep Finset.univ P : sProp 𝕄) ⊢ iprop(P j ∗ (R -∗ bigSep Finset.univ (Function.update P j R))) := by
  have h := bigSep_univ_update (Φ := P) (Ψ := Function.update P j R) j fun i hi => Function.update_of_ne hi _ _
  rw [Function.update_self] at h
  exact h

theorem wpc_bind (c : Dev nD) {α β : Type} (p : Prog (TpuEff nD τ sig (Elt F) Λ₀ .tc) α) (k : α → Prog (TpuEff nD τ sig (Elt F) Λ₀ .tc) β) (Q : β → sProp 𝕄) :
    wpc c (p.bind k) Q = wpc c p fun a => wpc c (k a) Q := wp_bind ..

/-- The six transfers of a step start. -/
theorem wp_step_sends (K : GSem nD τ sig → ℕ) (c : Dev nD) (i : grid0.Coords) (j : Fin 8) (hij : (i 0).val = j.val)
    {α : Type} {Q : α → sProp 𝕄} {k : PUnit → Prog (TpuEff nD τ sig (Elt F) Λ₀ .tc) α} :
    iprop(invs X K ∗ tri (freshP c j) ∗ tri (fun p => lend (peer p c) p j) ∗ owesW c (owing c j.val)
        ∗ ownsTc c (oSlot oS j) fullShare (X.o c j) ∗ ownsTc c (sSlot sS j) fullShare (X.s c j))
      ⊢ iprop(((owesW c (owing c (j.val + 1)) ∗ flight c j) -∗ wpc c (k ⟨⟩) Q) -∗ wpc c (sends (F := F) i c k) Q) := by
  have e5 : k0_off5 i = ![j.val, 0, 0, 0] := by rw [k0_off5_eq, hij]
  have e6 : k0_off6 i = ![j.val, 0, 0, 0] := by rw [k0_off6_eq, hij]
  rw [owing_step]
  unfold stepOwe sends tri
  iintro ⟨#HI, ⟨F0, F1, F2⟩, ⟨L0, L1, L2⟩, HO, Ho, Hs⟩ Hk
  ihave ⟨Ho0, Ho1, Ho2⟩ := (owns_three c (oSlot oS j) (X.o c j)) $$ Ho
  ihave ⟨Hs0, Hs1, Hs2⟩ := (owns_three c (sSlot sS j) (X.s c j)) $$ Hs
  iapply (wp_sends X K c j 0 _ _ (dev4_eq c _) (dev5_eq c _) (k0_off4 i) (by rw [k0_off4_eq, hij]; rfl) _ (k0_off5 i) e5 _ (k0_off6 i) e6 _ _ _
    (owing c (j.val + 1) + tal c 3 2 j + tal c 2 2 j + tal c 3 1 j + tal c 2 1 j)) $$ [F0 L0 HO Ho0 Hs0]
  · isplitr; · iexact HI
    isplitl [F0]; · iexact F0
    isplitl [L0]; · iexact L0
    isplitl [HO]; · iexact HO
    isplitl [Ho0]; · iexact Ho0
    iexact Hs0
  iintro ⟨HO, G0⟩
  iapply (wp_sends X K c j 1 _ _ (dev6_eq c _) (dev7_eq c _) (k0_off7 i) (by rw [k0_off7_eq, hij]; rfl) _ (k0_off5 i) e5 _ (k0_off6 i) e6 _ _ _
    (owing c (j.val + 1) + tal c 3 2 j + tal c 2 2 j)) $$ [F1 L1 HO Ho1 Hs1]
  · isplitr; · iexact HI
    isplitl [F1]; · iexact F1
    isplitl [L1]; · iexact L1
    isplitl [HO]; · iexact HO
    isplitl [Ho1]; · iexact Ho1
    iexact Hs1
  iintro ⟨HO, G1⟩
  iapply (wp_sends X K c j 2 _ _ (dev8_eq c _) (dev9_eq c _) (k0_off8 i) (by rw [k0_off8_eq, hij]; rfl) _ (k0_off5 i) e5 _ (k0_off6 i) e6 _ _ _
    (owing c (j.val + 1))) $$ [F2 L2 HO Ho2 Hs2]
  · isplitr; · iexact HI
    isplitl [F2]; · iexact F2
    isplitl [L2]; · iexact L2
    isplitl [HO]; · iexact HO
    isplitl [Ho2]; · iexact Ho2
    iexact Hs2
  iintro ⟨HO, G2⟩
  iapply Hk
  isplitl [HO]; · iexact HO
  unfold flight tri
  isplitl [G0]; · iexact G0
  isplitl [G1]; · iexact G1
  iexact G2

/-- The waits and the merges of a step under way. -/
theorem wp_comb (K : GSem nD τ sig → ℕ) (c : Dev nD) (j : Fin 8) (t : ℕ) (ht : t ≤ 8) (hj : j.val < t)
    (M : Memref sig .tc .vmem S8x8x16x128 .f32) (S : Fin 8 → Prop)
    (o0 : Fin 2 → Nat) (e0 : o0 = ![0, j.val]) (i0) (o1 : Fin 2 → Nat) (e1 : o1 = ![1, j.val]) (i1) (o2 : Fin 2 → Nat) (e2 : o2 = ![2, j.val]) (i2)
    (wO : Fin 4 → Nat) (inbO) (wS : Fin 4 → Nat) (inbS) (hS) (hR) (lO : Fin 4 → Nat) (hO : lO = ![j.val, 0, 0, 0]) (jnbO)
    (l0 : Fin 4 → Nat) (h0 : l0 = ![j.val, 0, 0, 0]) (inb0) (l1 : Fin 4 → Nat) (h1 : l1 = ![j.val, 1, 0, 0]) (inb1)
    (sA : Fin 4 → Nat) (hA : sA = outOff c j 0) (inbA) (sB : Fin 4 → Nat) (hB : sB = outOff c j 1) (inbB) (fA fB : MergeFn F)
    (hfA : fA = mergeFn) (hfB : fB = mergeFn) {Q : PUnit → sProp 𝕄} :
    iprop(invs X K ∗ levAts L lv ∗ owesW c (owing c t) ∗ flight c j ∗ (∃ V, ⌜Has X c S V⌝ ∗ ownsTc c M fullShare V))
      ⊢ iprop(((owesW c (owing c t) ∗ done X c j ∗ (∃ V, ⌜Has X c (fun j' => S j' ∨ j' = j) V⌝ ∗ ownsTc c M fullShare V)) -∗ Q ⟨⟩)
        -∗ wpc c (comb (F := F) M o0 i0 o1 i1 o2 i2 wO inbO wS inbS hS hR lO jnbO l0 inb0 l1 inb1 sA inbA sB inbB fA fB) Q) := by
  subst hA hB hfA hfB
  unfold comb
  rw [wpc_bind]
  iintro ⟨#HI, #Hlev, HO, HG, %V, %hV, HM⟩ Hk
  ihave ⟨G0, G1, G2⟩ := (Entails.of_eq (show flight c j = iprop(flightP c j 0 ∗ flightP c j 1 ∗ flightP c j 2) from rfl)) $$ HG
  iapply (wp_waits X K c j t ht hj 0 o0 e0 i0 wO inbO wS inbS hS (hR 0)) $$ [HO G0]
  · isplitr; · iexact HI
    isplitr; · iexact Hlev
    isplitl [HO]; · iexact HO
    iexact G0
  iintro ⟨HO, D0⟩
  rw [wpc_bind]
  iapply (wp_waits X K c j t ht hj 1 o1 e1 i1 wO inbO wS inbS hS (hR 1)) $$ [HO G1]
  · isplitr; · iexact HI
    isplitr; · iexact Hlev
    isplitl [HO]; · iexact HO
    iexact G1
  iintro ⟨HO, D1⟩
  rw [wpc_bind]
  iapply (wp_waits X K c j t ht hj 2 o2 e2 i2 wO inbO wS inbS hS (hR 2)) $$ [HO G2]
  · isplitr; · iexact HI
    isplitr; · iexact Hlev
    isplitl [HO]; · iexact HO
    iexact G2
  iintro ⟨HO, D2⟩
  iapply (wp_merges X c j M V lO hO jnbO l0 h0 inb0 l1 h1 inb1 (outOff c j 0) inbA (outOff c j 1) inbB mergeFn mergeFn) $$ [D0 D1 D2 HM]
  · isplitr [HM]
    · iapply (Entails.of_eq (show iprop(doneP X c j 0 ∗ doneP X c j 1 ∗ doneP X c j 2) = done X c j from rfl))
      isplitl [D0]; · iexact D0
      isplitl [D1]; · iexact D1
      iexact D2
    iexact HM
  iintro ⟨HD, HM⟩
  iapply Hk
  isplitl [HO]; · iexact HO
  isplitl [HD]; · iexact HD
  iexists ((outRect c j 1).overlay ((outRect c j 0).overlay V (res X c j 0)) (res X c j 1))
  isplitr
  · ipureintro; exact has_write X c j S V hV
  iexact HM

end Cert.FlashProof

end
-- ==== Proof.Run.lean ====
/-
  The rule of a whole grid step: the first, which lets the peers in, and the later ones.
-/
module

public import proofs.«01_k».proof.Proof.Step

@[expose] public section

noncomputable section

namespace Cert.FlashProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (X : Sent F)

/-- The steps whose merges the output block holds after point `t`. -/
def upto (t : ℕ) (j : Fin 8) : Prop := j.val + 2 ≤ t ∨ t = 7
/-- The output block holds the merges of the steps in `S`. -/
def outHas (c : Dev nD) (M : Memref sig .tc .vmem S8x8x16x128 .f32) (S : Fin 8 → Prop) : sProp 𝕄 := iprop(∃ V, ⌜Has X c S V⌝ ∗ ownsTc c M fullShare V)

theorem outHas_mono (c : Dev nD) (M : Memref sig .tc .vmem S8x8x16x128 .f32) {S T : Fin 8 → Prop} (h : ∀ j, T j → S j) : outHas X c M S ⊢ outHas X c M T := by
  unfold outHas
  iintro ⟨%V, %hV, H⟩
  iexists V
  isplitr; · ipureintro; exact hV.mono X h
  iexact H

section Rest
variable (K : GSem nD τ sig → ℕ) (c : Dev nD) (i : grid0.Coords) (M : Memref sig .tc .vmem S8x8x16x128 .f32) (S : Fin 8 → Prop)

theorem wp_comb3 (h : k0_cond3 i = 1#1) (j : Fin 8) (hij : (i 0).val = j.val + 2) {Q : PUnit → sProp 𝕄} :
    iprop(invs X K ∗ levAts L lv ∗ owesW c (owing c (j.val + 3)) ∗ flight c j ∗ outHas X c M S)
      ⊢ iprop(((owesW c (owing c (j.val + 3)) ∗ done X c j ∗ outHas X c M (fun j' => S j' ∨ j' = j)) -∗ Q ⟨⟩)
        -∗ wpc c (comb3 (F := F) M i c h) Q) := by
  have hi : (i 0).val < 8 := (i 0).isLt
  have hj : (i 0).val - 2 = j.val := by omega
  unfold comb3 outHas
  exact wp_comb X K c j (j.val + 3) (by omega) (by omega) M S _ (by rw [off9_eq i h, hj]) _ _ (by rw [off12_eq i h, hj]) _ _ (by rw [off13_eq i h, hj]) _ _ _ _ _ _ _
    _ (by rw [off14_eq i h, hj]) _ _ (by rw [off15_eq i h, hj]) _ _ (by rw [off16_eq i h, hj]) _
    _ (by rw [off17_eq i c h, hj]; rfl) _ _ (by rw [off18_eq i c h, hj]; rfl) _ _ _
    (by funext a a0 a1 b b0 b1; exact merge_own a a0 a1 b b0 b1) (by funext a a0 a1 b b0 b1; exact merge_other a a0 a1 b b0 b1)

theorem off19_out : ∀ d : Dev nD, k0_off19 d = outOff d 6 0 := by decide +kernel
theorem off20_out : ∀ d : Dev nD, k0_off20 d = outOff d 6 1 := by decide +kernel
theorem off21_out : ∀ d : Dev nD, k0_off21 d = outOff d 7 0 := by decide +kernel
theorem off22_out : ∀ d : Dev nD, k0_off22 d = outOff d 7 1 := by decide +kernel

theorem wp_comb6 (h : k0_cond4 i = 1#1) {Q : PUnit → sProp 𝕄} :
    iprop(invs X K ∗ levAts L lv ∗ owesW c (owing c 8) ∗ flight c 6 ∗ outHas X c M S)
      ⊢ iprop(((owesW c (owing c 8) ∗ done X c 6 ∗ outHas X c M (fun j' => S j' ∨ j' = 6)) -∗ Q ⟨⟩)
        -∗ wpc c (comb6 (F := F) M i c h) Q) := by
  unfold comb6 outHas
  exact wp_comb X K c 6 8 (by omega) (by decide) M S _ rfl _ _ rfl _ _ rfl _ _ _ _ _ _ _
    _ rfl _ _ rfl _ _ rfl _ _ (off19_out c) _ _ (off20_out c) _ _ _ rfl (by funext a a0 a1 b b0 b1; exact merge_six a a0 a1 b b0 b1)

theorem wp_comb7 (h : k0_cond4 i = 1#1) {Q : PUnit → sProp 𝕄} :
    iprop(invs X K ∗ levAts L lv ∗ owesW c (owing c 8) ∗ flight c 7 ∗ outHas X c M S)
      ⊢ iprop(((owesW c (owing c 8) ∗ done X c 7 ∗ outHas X c M (fun j' => S j' ∨ j' = 7)) -∗ Q ⟨⟩)
        -∗ wpc c (comb7 (F := F) M i c h) Q) := by
  unfold comb7 outHas
  exact wp_comb X K c 7 8 (by omega) (by decide) M S _ rfl _ _ rfl _ _ rfl _ _ _ _ _ _ _
    _ rfl _ _ rfl _ _ rfl _ _ (off21_out c) _ _ (off22_out c) _ _ _ (by funext a a0 a1 b b0 b1; exact merge_seven a a0 a1 b b0 b1)
    (by funext a a0 a1 b b0 b1; exact merge_seven_other a a0 a1 b b0 b1)

/-! ## How the transfers' states advance -/

theorem stage_lt (t : ℕ) (j : Fin 8) (h : j.val + 2 < t ∨ t = 8) : stage X c t j = done X c j := by
  unfold stage; rw [if_pos (by have := j.isLt; omega), if_pos h]
theorem stage_flight (t : ℕ) (j : Fin 8) (h : j.val < t) (h' : ¬ (j.val + 2 < t ∨ t = 8)) : stage X c t j = flight c j := by
  unfold stage; rw [if_pos h, if_neg h']
theorem stage_fresh (t : ℕ) (j : Fin 8) (h : ¬ j.val < t) : stage X c t j = fresh c j := by
  unfold stage; rw [if_neg h]

/-- The states before the next step, where nothing has landed yet. -/
theorem stage_early (j : Fin 8) (hj : j.val < 2) : Function.update (stage X c j.val) j (flight c j) = stage X c (j.val + 1) := by
  funext j'
  by_cases e : j' = j
  · subst e; rw [Function.update_self, stage_flight X c _ _ (by omega) (by omega)]
  · have e' : j'.val ≠ j.val := fun h => e (Fin.ext h)
    rw [Function.update_of_ne e]
    by_cases h : j'.val < j.val
    · rw [stage_flight X c _ _ h (by omega), stage_flight X c _ _ (by omega) (by omega)]
    · rw [stage_fresh X c _ _ h, stage_fresh X c _ _ (by omega)]

/-- The states before the next step, where step `k` has landed. -/
theorem stage_mid (j k : Fin 8) (hk : k.val + 2 = j.val) (hj : j.val < 7) :
    Function.update (Function.update (stage X c j.val) j (flight c j)) k (done X c k) = stage X c (j.val + 1) := by
  funext j'
  by_cases e : j' = k
  · subst e; rw [Function.update_self, stage_lt X c _ _ (by omega)]
  have ek : j'.val ≠ k.val := fun h => e (Fin.ext h)
  rw [Function.update_of_ne e]
  by_cases e : j' = j
  · subst e; rw [Function.update_self, stage_flight X c _ _ (by omega) (by omega)]
  · have e' : j'.val ≠ j.val := fun h => e (Fin.ext h)
    rw [Function.update_of_ne e]
    by_cases h : j'.val < j.val
    · by_cases h2 : j'.val + 2 < j.val
      · rw [stage_lt X c _ _ (Or.inl h2), stage_lt X c _ _ (by omega)]
      · rw [stage_flight X c _ _ h (by omega), stage_flight X c _ _ (by omega) (by omega)]
    · rw [stage_fresh X c _ _ h, stage_fresh X c _ _ (by omega)]

/-- The states after the last step. -/
theorem stage_last :
    Function.update (Function.update (Function.update (Function.update (stage X c 7) 7 (flight c 7)) 5 (done X c 5)) 6 (done X c 6)) 7 (done X c 7) = stage X c 8 := by
  funext j'
  rw [stage_lt X c 8 j' (Or.inr rfl)]
  by_cases e7 : j' = 7
  · subst e7; rw [Function.update_self]
  rw [Function.update_of_ne e7]
  by_cases e6 : j' = 6
  · subst e6; rw [Function.update_self]
  rw [Function.update_of_ne e6]
  by_cases e5 : j' = 5
  · subst e5; rw [Function.update_self]
  rw [Function.update_of_ne e5, Function.update_of_ne e7]
  exact stage_lt X c 7 j' (Or.inl (by
    have h7 : j'.val ≠ 7 := fun h => e7 (Fin.ext h)
    have h6 : j'.val ≠ 6 := fun h => e6 (Fin.ext h)
    have h5 : j'.val ≠ 5 := fun h => e5 (Fin.ext h)
    have := j'.isLt
    omega))

/-! ## What follows the stores -/

/-- The sends and the merges of a step. -/
theorem wp_rest (j : Fin 8) (hij : (i 0).val = j.val) {Q : PUnit → sProp 𝕄} :
    iprop(invs X K ∗ levAts L lv ∗ tri (freshP c j) ∗ tri (fun p => lend (peer p c) p j) ∗ owesW c (owing c j.val)
        ∗ ownsTc c (oSlot oS j) fullShare (X.o c j) ∗ ownsTc c (sSlot sS j) fullShare (X.s c j)
        ∗ (flight c j -∗ bigSep Finset.univ (Function.update (stage X c j.val) j (flight c j)))
        ∗ outHas X c M (fun j' => j'.val + 3 ≤ j.val))
      ⊢ iprop(((owesW c (owing c (j.val + 1)) ∗ bigSep Finset.univ (stage X c (j.val + 1)) ∗ outHas X c M (upto j.val)) -∗ Q ⟨⟩)
        -∗ wpc c (rest (F := F) M i c) Q) := by
  have hj := j.isLt
  unfold rest
  iintro ⟨#HI, #Hlev, HF, HL, HO, Ho, Hs, HW, HM⟩ Hk
  iapply (wp_step_sends X K c i j hij) $$ [HF HL HO Ho Hs]
  · isplitr; · iexact HI
    isplitl [HF]; · iexact HF
    isplitl [HL]; · iexact HL
    isplitl [HO]; · iexact HO
    isplitl [Ho]; · iexact Ho
    iexact Hs
  iintro ⟨HO, HG⟩
  ihave HB := HW $$ HG
  by_cases h2 : 2 ≤ j.val
  · have h3 : k0_cond3 i = 1#1 := (cond3_iff i).mpr (by omega)
    have hk5 : (⟨j.val - 2, by omega⟩ : Fin 8).val + 2 = j.val := by show j.val - 2 + 2 = j.val; omega
    generalize (⟨j.val - 2, by omega⟩ : Fin 8) = k at hk5
    have ekj : j.val + 1 = k.val + 3 := by omega
    have hkj : k ≠ j := by intro e; subst e; omega
    rw [dif_pos h3, wpc_bind]
    ihave ⟨HG, HB⟩ := (swap (Function.update (stage X c j.val) j (flight c j)) k (done X c k)) $$ HB
    ihave HG := (Entails.of_eq (show Function.update (stage X c j.val) j (flight c j) k = flight c k by
      rw [Function.update_of_ne hkj]; exact stage_flight X c _ _ (by omega) (by omega))) $$ HG
    rw [ekj]
    iapply (wp_comb3 X K c i M (fun j' => j'.val + 3 ≤ j.val) h3 k (by omega)) $$ [HO HG HM]
    · isplitr; · iexact HI
      isplitr; · iexact Hlev
      isplitl [HO]; · iexact HO
      isplitl [HG]; · iexact HG
      iexact HM
    iintro ⟨HO, HD, HM⟩
    ihave HB := HB $$ HD
    unfold rest4
    by_cases h7 : j.val = 7
    · have h4 : k0_cond4 i = 1#1 := (cond4_iff i).mpr (by omega)
      obtain rfl : j = 7 := Fin.ext h7
      obtain rfl : k = 5 := Fin.ext (show k.val = 5 by have h0 : ((7 : Fin 8)).val = 7 := rfl; omega)
      rw [dif_pos h4, wpc_bind, show ((7 : Fin 8)).val = 7 from rfl]
      ihave ⟨HG, HB⟩ := (swap (Function.update (Function.update (stage X c 7) 7 (flight c 7)) 5 (done X c 5)) 6 (done X c 6)) $$ HB
      ihave HG := (Entails.of_eq (show Function.update (Function.update (stage X c 7) 7 (flight c 7)) 5 (done X c 5) 6 = flight c 6 by
        rw [Function.update_of_ne (by decide), Function.update_of_ne (by decide)]; exact stage_flight X c _ _ (by decide) (by decide))) $$ HG
      iapply (wp_comb6 X K c i M _ h4) $$ [HO HG HM]
      · isplitr; · iexact HI
        isplitr; · iexact Hlev
        isplitl [HO]; · iexact HO
        isplitl [HG]; · iexact HG
        iexact HM
      iintro ⟨HO, HD, HM⟩
      ihave HB := HB $$ HD
      ihave ⟨HG, HB⟩ := (swap (Function.update (Function.update (Function.update (stage X c 7) 7 (flight c 7)) 5 (done X c 5)) 6 (done X c 6)) 7 (done X c 7)) $$ HB
      ihave HG := (Entails.of_eq (show Function.update (Function.update (Function.update (stage X c 7) 7 (flight c 7)) 5 (done X c 5)) 6 (done X c 6) 7 = flight c 7 by
        rw [Function.update_of_ne (by decide), Function.update_of_ne (by decide), Function.update_self])) $$ HG
      iapply (wp_comb7 X K c i M _ h4) $$ [HO HG HM]
      · isplitr; · iexact HI
        isplitr; · iexact Hlev
        isplitl [HO]; · iexact HO
        isplitl [HG]; · iexact HG
        iexact HM
      iintro ⟨HO, HD, HM⟩
      ihave HB := HB $$ HD
      rw [stage_last]
      iapply Hk
      isplitl [HO]; · iexact HO
      isplitl [HB]; · iexact HB
      iapply (outHas_mono X c M (T := upto 7) (by
        intro j' _
        have := j'.isLt
        by_cases e7 : j' = 7
        · exact Or.inr e7
        by_cases e6 : j' = 6
        · exact Or.inl (Or.inr e6)
        by_cases e5 : j' = 5
        · exact Or.inl (Or.inl (Or.inr e5))
        refine Or.inl (Or.inl (Or.inl ?_))
        have h7 : j'.val ≠ 7 := fun h => e7 (Fin.ext h)
        have h6 : j'.val ≠ 6 := fun h => e6 (Fin.ext h)
        have h5 : j'.val ≠ 5 := fun h => e5 (Fin.ext h)
        show j'.val + 3 ≤ 7
        omega)) $$ HM
    · have h4 : ¬ k0_cond4 i = 1#1 := fun h => h7 (by have := (cond4_iff i).mp h; omega)
      rw [dif_neg h4, stage_mid X c j k hk5 (by omega), ekj]
      simp only [wpc, Prog.pure_eq_ret, wp_ret]
      imodintro
      iapply Hk
      isplitl [HO]; · iexact HO
      isplitl [HB]; · iexact HB
      iapply (outHas_mono X c M (T := upto j.val) (by
        intro j' hj'
        by_cases e : j' = k
        · exact Or.inr e
        refine Or.inl ?_
        have e' : j'.val ≠ k.val := fun h => e (Fin.ext h)
        have hu : j'.val + 2 ≤ j.val ∨ j.val = 7 := hj'
        show j'.val + 3 ≤ j.val
        omega)) $$ HM
  · have h3 : ¬ k0_cond3 i = 1#1 := fun h => h2 (by have := (cond3_iff i).mp h; omega)
    have h4 : ¬ k0_cond4 i = 1#1 := fun h => h2 (by have := (cond4_iff i).mp h; omega)
    unfold rest4
    rw [dif_neg h3, dif_neg h4, stage_early X c j (by omega)]
    simp only [wpc, Prog.pure_eq_ret, wp_ret]
    imodintro
    iapply Hk
    isplitl [HO]; · iexact HO
    isplitl [HB]; · iexact HB
    iapply (outHas_mono X c M (T := upto j.val) (by
      intro j' hj'
      have hu : j'.val + 2 ≤ j.val ∨ j.val = 7 := hj'
      show j'.val + 3 ≤ j.val
      omega)) $$ HM
end Rest

/-! ## The step -/

/-- The sent values of device `c`'s step `j`, from the blocks the step loads. -/
def SentBy (c : Dev nD) (j : Fin 8) (V2 : S1x8x8x128.Idx → Elt F .bf16) (V3 V4 : S1x1024x8x128.Idx → Elt F .bf16) : Prop :=
  X.o c j = k0_pay46 (k0_pay43 V2 V3) (k0_pay45 V4) ∧ rowOf 0 (X.s c j) = k0_pay47 (k0_pay42 V2 V3) ∧ rowOf 1 (X.s c j) = k0_pay48 (k0_pay44 V2 V3)

section Steps
variable (K : GSem nD τ sig → ℕ) (c : Dev nD) (i : grid0.Coords) (M1 : Memref sig .tc .smem S1 .i32) (h1 : M1.IsWhole) (M2 : Memref sig .tc .vmem S1x8x8x128 .bf16) (h2 : M2.IsWhole) (M3 : Memref sig .tc .vmem S1x1024x8x128 .bf16) (h3 : M3.IsWhole) (M4 : Memref sig .tc .vmem S1x1024x8x128 .bf16) (h4 : M4.IsWhole) (M5 : Memref sig .tc .vmem S8x8x16x128 .f32) (h5 : M5.IsWhole)
  (q2 q3 q4 : PosShare TreeShare) (V2 : S1x8x8x128.Idx → Elt F .bf16) (V3 V4 : S1x1024x8x128.Idx → Elt F .bf16)

/-- A later step. -/
theorem wp_step (j : Fin 8) (hij : (i 0).val = j.val) (hj : j.val ≠ 0) (hX : SentBy X c j V2 V3 V4) {Q : PUnit → sProp 𝕄} :
    iprop(invs X K ∗ levAts L lv ∗ owesW c (owing c j.val) ∗ bigSep Finset.univ (stage X c j.val)
        ∗ ownsTc c M2 q2 V2 ∗ ownsTc c M3 q3 V3 ∗ ownsTc c M4 q4 V4 ∗ outHas X c M5 (fun j' => j'.val + 3 ≤ j.val))
      ⊢ iprop(((owesW c (owing c (j.val + 1)) ∗ bigSep Finset.univ (stage X c (j.val + 1))
            ∗ ownsTc c M2 q2 V2 ∗ ownsTc c M3 q3 V3 ∗ ownsTc c M4 q4 V4 ∗ outHas X c M5 (upto j.val)) -∗ Q ⟨⟩)
        -∗ wpc c (cc0__body (F := F) i M1 h1 M2 h2 M3 h3 M4 h4 M5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11) Q) := by
  obtain ⟨ho, hs0, hs1⟩ := hX
  rw [body_eq, wpc_bind]
  iintro ⟨#HI, #Hlev, HO, HB, H2, H3, H4, HM⟩ Hk
  iapply (wp_front c i M1 h1 M2 h2 M3 h3 M4 h4 M5 h5 q2 q3 q4 V2 V3 V4 (by omega)) $$ [H2 H3 H4]
  · isplitl [H2]; · iexact H2
    isplitl [H3]; · iexact H3
    iexact H4
  iintro ⟨H2, H3, H4⟩
  rw [wpc_bind]
  dsimp only [front]
  ihave ⟨HF, HB⟩ := (swap (stage X c j.val) j (flight c j)) $$ HB
  ihave ⟨Hm, HF, HL⟩ := (Entails.of_eq ((stage_fresh X c j.val j (by omega)).trans (show fresh c j = iprop(mine c j ∗ tri (freshP c j) ∗ tri (fun p => lend (peer p c) p j)) from rfl))) $$ HF
  iapply (wp_store23 X c i M1 h1 M2 h2 M3 h3 M4 h4 M5 h5 _ _ _ _ _ _ j hij (by omega) ho hs0 hs1) $$ Hm
  iintro ⟨Ho, Hs⟩
  iapply (wp_rest X K c i M5 j hij) $$ [HF HL HO Ho Hs HB HM]
  · isplitr; · iexact HI
    isplitr; · iexact Hlev
    isplitl [HF]; · iexact HF
    isplitl [HL]; · iexact HL
    isplitl [HO]; · iexact HO
    isplitl [Ho]; · iexact Ho
    isplitl [Hs]; · iexact Hs
    isplitl [HB]; · iexact HB
    iexact HM
  iintro ⟨HO, HB, HM⟩
  iapply Hk
  isplitl [HO]; · iexact HO
  isplitl [HB]; · iexact HB
  isplitl [H2]; · iexact H2
  isplitl [H3]; · iexact H3
  isplitl [H4]; · iexact H4
  iexact HM

/-- What a device holds of step `j`'s transfers at launch: all but the peers' landing slots. -/
def fresh₀ (c : Dev nD) (j : Fin 8) : sProp 𝕄 := iprop(mine c j ∗ tri (freshP c j))

omit [FloatOps F] [Named F] in
theorem fresh_of (c : Dev nD) (S : Finset (Fin 8)) :
    iprop(bigSep S (fresh₀ (F := F) c) ∗ tri (fun p => bigSep S fun j => lend (peer p c) p j)) ⊢ (bigSep S (fresh c) : sProp 𝕄) := by
  show iprop(bigSep S (fresh₀ c) ∗ bigSep S (fun j => lend (peer 0 c) 0 j) ∗ bigSep S (fun j => lend (peer 1 c) 1 j) ∗ bigSep S (fun j => lend (peer 2 c) 2 j)) ⊢ (bigSep S (fresh c) : sProp 𝕄)
  rw [← bigSep_sep', ← bigSep_sep', ← bigSep_sep']
  refine BI.bigSep_mono fun j _ => ?_
  show iprop(fresh₀ c j ∗ tri (fun p => lend (peer p c) p j)) ⊢ fresh c j
  unfold fresh₀ fresh
  iintro ⟨⟨Hm, HF⟩, HL⟩
  isplitl [Hm]; · iexact Hm
  isplitl [HF]; · iexact HF
  iexact HL

/-- The first step. -/
theorem wp_step_first (hi : (i 0).val = 0) (hX : SentBy X c 0 V2 V3 V4) {Q : PUnit → sProp 𝕄} :
    iprop(invs X K ∗ levAts L lv ∗ owesW c (O₀ c) ∗ tri (barP c) ∗ barW c ∗ bigSep Finset.univ (fresh₀ c)
        ∗ ownsTc c M2 q2 V2 ∗ ownsTc c M3 q3 V3 ∗ ownsTc c M4 q4 V4 ∗ (∃ V, ownsTc c M5 fullShare V))
      ⊢ iprop(((owesW c (owing c 1) ∗ semVal (barCell c) 0 ∗ bigSep Finset.univ (stage X c 1)
            ∗ ownsTc c M2 q2 V2 ∗ ownsTc c M3 q3 V3 ∗ ownsTc c M4 q4 V4 ∗ outHas X c M5 (upto 0)) -∗ Q ⟨⟩)
        -∗ wpc c (cc0__body (F := F) i M1 h1 M2 h2 M3 h3 M4 h4 M5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11) Q) := by
  obtain ⟨ho, hs0, hs1⟩ := hX
  rw [body_eq, wpc_bind]
  iintro ⟨#HI, #Hlev, HO, Hb, Hw, HB, H2, H3, H4, %V, HM⟩ Hk
  iapply (wp_front0 X K c i M1 h1 M2 h2 M3 h3 M4 h4 M5 h5 q2 q3 q4 V2 V3 V4 hi) $$ [Hb HO H2 H3 H4]
  · isplitr; · iexact HI
    isplitl [Hb]; · iexact Hb
    isplitl [HO]; · iexact HO
    isplitl [H2]; · iexact H2
    isplitl [H3]; · iexact H3
    iexact H4
  iintro ⟨HO, H2, H3, H4⟩
  rw [wpc_bind]
  dsimp only [front]
  ihave ⟨⟨Hm, HF⟩, HB⟩ := (Entails.of_eq ((bigSep_univ_at (fresh₀ (F := F) c) 0).trans (show _ = iprop((mine c 0 ∗ tri (freshP c 0)) ∗ bigSep (Finset.univ.erase 0) (fresh₀ c)) from rfl))) $$ HB
  iapply (wp_store23_first X K c i M1 h1 M2 h2 M3 h3 M4 h4 M5 h5 _ _ _ _ _ _ 0 hi hi ho hs0 hs1) $$ [Hm HO Hw]
  · isplitr; · iexact HI
    isplitr; · iexact Hlev
    isplitl [Hm]; · iexact Hm
    isplitl [HO]; · iexact HO
    iexact Hw
  iintro ⟨HO, Hz, HL, Ho, Hs⟩
  ihave ⟨HL0, HL⟩ := (show tri (barPay (F := F) c) ⊢ iprop(tri (fun p => lend (peer p c) p 0) ∗ tri (fun p => bigSep (Finset.univ.erase 0) fun j => lend (peer p c) p j)) by
    unfold tri barPay
    rw [bigSep_univ_at (fun j => lend (peer 0 c) 0 j) 0, bigSep_univ_at (fun j => lend (peer 1 c) 1 j) 0, bigSep_univ_at (fun j => lend (peer 2 c) 2 j) 0]
    iintro ⟨⟨A0, B0⟩, ⟨A1, B1⟩, ⟨A2, B2⟩⟩
    isplitl [A0 A1 A2]
    · isplitl [A0]; · iexact A0
      isplitl [A1]; · iexact A1
      iexact A2
    isplitl [B0]; · iexact B0
    isplitl [B1]; · iexact B1
    iexact B2) $$ HL
  iapply (wp_rest X K c i M5 0 hi) $$ [HF HL0 HL HO Ho Hs HB HM]
  · isplitr; · iexact HI
    isplitr; · iexact Hlev
    isplitl [HF]; · iexact HF
    isplitl [HL0]; · iexact HL0
    isplitl [HO]; · iexact HO
    isplitl [Ho]; · iexact Ho
    isplitl [Hs]; · iexact Hs
    isplitl [HB HL]
    · iintro HG
      rw [bigSep_univ_at (Function.update (stage X c _) 0 (flight c 0)) 0, Function.update_self,
        BI.bigSep_congr (s := Finset.univ.erase 0) (Φ := Function.update (stage X c _) 0 (flight c 0)) (Ψ := fresh c)
          (fun j hj => by rw [Function.update_of_ne (Finset.ne_of_mem_erase hj)]; exact stage_fresh X c _ _ (Nat.not_lt_zero _))]
      isplitl [HG]; · iexact HG
      iapply (fresh_of c _)
      isplitl [HB]; · iexact HB
      iexact HL
    unfold outHas
    iexists V
    isplitr; · ipureintro; exact fun j hj => absurd hj (by simp)
    iexact HM
  iintro ⟨HO, HB, HM⟩
  iapply Hk
  isplitl [HO]; · iexact HO
  isplitl [Hz]; · iexact Hz
  isplitl [HB]; · iexact HB
  isplitl [H2]; · iexact H2
  isplitl [H3]; · iexact H3
  isplitl [H4]; · iexact H4
  iexact HM
end Steps

end Cert.FlashProof

end
-- ==== Proof.Fund.lean ====
/-
  The launch of the protocol: the credits each device is dealt, the cells funded before their semaphores are in hand, the
  tokens dealt to the device that pays with them, and the cells opened.
-/
module

public import proofs.«01_k».proof.Proof.Run

@[expose] public section

noncomputable section

namespace Cert.FlashProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (X : Sent F)

/-! ## The launch credit -/

/-- Peer `p` as a permutation of the devices. -/
def peerE (p : Fin 3) : Dev nD ≃ Dev nD := ⟨peer p, peer p, peer_peer p, peer_peer p⟩

/-- What the peers owe device `c`: three barrier units, and the receive credits of every step. -/
def due (c : Dev nD) : CellTallies nD τ sig Unit :=
  tallyAt (barCell c) () 3 + ∑ j : Fin 8, ∑ p : Fin 3, (tallyAt (kcell c (2, p, j)) () (amt 2) + tallyAt (kcell c (3, p, j)) () (amt 3))

theorem owing_all (c : Dev nD) : owing c 0
    = stepOwe c 0 (stepOwe c 1 (stepOwe c 2 (stepOwe c 3 (stepOwe c 4 (stepOwe c 5 (stepOwe c 6 (stepOwe c 7 0))))))) := rfl

/-- The credits owed from the first step on, as one sum. -/
theorem owing_sum (c : Dev nD) : owing c 0 = ∑ j : Fin 8, ∑ p : Fin 3, (tal c 2 p j + tal c 3 p j) := by
  rw [owing_all]
  have h (j : Fin 8) (O : CellTallies nD τ sig Unit) : stepOwe c j O = O + ∑ p : Fin 3, (tal c 2 p j + tal c 3 p j) := by
    unfold stepOwe; rw [Fin.sum_univ_three]; ac_rfl
  simp only [h, Fin.sum_univ_eight, zero_add]
  ac_rfl

/-- Owed by all and dealt to all: the same units. -/
theorem sum_due : ∑ d : Dev nD, O₀ d = ∑ d : Dev nD, due d := by
  have hb (p : Fin 3) : (∑ d : Dev nD, (tallyAt (barCell (peer p d)) () 1 : CellTallies nD τ sig Unit)) = ∑ d : Dev nD, tallyAt (barCell d) () 1 :=
    Equiv.sum_comp (peerE p) (fun d => (tallyAt (barCell d) () 1 : CellTallies nD τ sig Unit))
  have hk (a : Fin 4) : (∑ d : Dev nD, ∑ j : Fin 8, ∑ p : Fin 3, tal d a p j)
      = ∑ d : Dev nD, ∑ j : Fin 8, ∑ p : Fin 3, (tallyAt (kcell d (a, p, j)) () (amt a) : CellTallies nD τ sig Unit) := by
    rw [Finset.sum_comm, Finset.sum_comm (s := Finset.univ (α := Dev nD))]
    refine Finset.sum_congr rfl fun j _ => ?_
    rw [Finset.sum_comm, Finset.sum_comm (s := Finset.univ (α := Dev nD))]
    exact Finset.sum_congr rfl fun p _ =>
      Equiv.sum_comp (peerE p) (fun d => (tallyAt (kcell d (a, p, j)) () (amt a) : CellTallies nD τ sig Unit))
  have h3 (d : Dev nD) : (tallyAt (barCell d) () 3 : CellTallies nD τ sig Unit)
      = tallyAt (barCell d) () 1 + tallyAt (barCell d) () 1 + tallyAt (barCell d) () 1 := by
    rw [tallyAt_add, tallyAt_add]
  have hO (d : Dev nD) : O₀ d = (∑ j : Fin 8, ∑ p : Fin 3, tal d 2 p j) + (∑ j : Fin 8, ∑ p : Fin 3, tal d 3 p j)
      + tallyAt (barCell (peer 2 d)) () 1 + tallyAt (barCell (peer 1 d)) () 1 + tallyAt (barCell (peer 0 d)) () 1 := by
    unfold O₀; rw [owing_sum]; simp only [Finset.sum_add_distrib]
  have hD (d : Dev nD) : due d = (∑ j : Fin 8, ∑ p : Fin 3, tallyAt (kcell d (2, p, j)) () (amt 2))
      + (∑ j : Fin 8, ∑ p : Fin 3, tallyAt (kcell d (3, p, j)) () (amt 3))
      + tallyAt (barCell d) () 1 + tallyAt (barCell d) () 1 + tallyAt (barCell d) () 1 := by
    unfold due; rw [h3]; simp only [Finset.sum_add_distrib]; ac_rfl
  rw [Finset.sum_congr rfl fun d _ => hO d, Finset.sum_congr rfl fun d _ => hD d]
  simp only [Finset.sum_add_distrib (s := Finset.univ (α := Dev nD))]
  rw [hb 0, hb 1, hb 2, hk 2, hk 3]

theorem due_core (c : Dev nD) (g : GSem nD τ sig) (h : due c g ≠ 0) : g.1 = (c : Thread nD τ) := by
  by_contra hg
  apply h
  have hz (s : SemLoc sig) (n : ℕ) : (tallyAt ((c : Thread nD τ), s) () n : CellTallies nD τ sig Unit) g = 0 :=
    tallyAt_ne_cell (fun e => hg (congrArg Prod.fst e)) () n
  unfold due
  simp only [Pi.add_apply, Finset.sum_apply, hz, add_zero, Finset.sum_const_zero]

/-- The credits of step `j` with peer `p` that device `c` waits with. -/
def credP (c : Dev nD) (j : Fin 8) (p : Fin 3) : sProp 𝕄 :=
  iprop(cred (tallyAt (kcell c (2, p, j)) () (amt 2)) ∗ cred (tallyAt (kcell c (3, p, j)) () (amt 3)))

omit [FloatOps F] [Named F] in
theorem cred_add' (a b : CellTallies nD τ sig Unit) : (cred (a + b) : sProp 𝕄) = iprop(cred a ∗ cred b) :=
  BI.Entails.antisymm (cred_add _ _).1 (cred_add _ _).2

omit [FloatOps F] [Named F] in
/-- A device's launch credit, by barrier and steps. -/
theorem creds (c : Dev nD) :
    (Pipeline.launchCred O₀ c : sProp 𝕄) ⊢ iprop(cred (tallyAt (barCell c) () 3) ∗ bigSep Finset.univ fun j => tri (credP c j)) := by
  rw [Pipeline.launchCred_of_sum O₀ due sum_due due_core c]
  unfold due
  rw [cred_add', Pipeline.cred_finsetSum]
  refine sep_mono_right (bigSep_mono fun j _ => ?_)
  rw [Pipeline.cred_finsetSum, bigSep_three]
  exact Entails.of_eq (congrArg tri (funext fun p => cred_add' _ _))

/-! ## A conjunction over the keys, by step and peer -/

omit [FloatOps F] [Named F] in
theorem bigSep_four (P : Fin 4 → sProp 𝕄) : bigSep Finset.univ P = iprop(P 0 ∗ P 1 ∗ P 2 ∗ P 3) :=
  BI.bigSep_univ_eq_bigSepL [0, 1, 2, 3] (by decide) (by decide) P

omit [FloatOps F] [Named F] in
theorem bigSep_keys (P : Key → sProp 𝕄) : bigSep Finset.univ P
    = bigSep Finset.univ fun j : Fin 8 => tri fun p => iprop(P (0, p, j) ∗ P (1, p, j) ∗ P (2, p, j) ∗ P (3, p, j)) := by
  have h (a : Fin 4) : (bigSep Finset.univ fun y : Fin 3 × Fin 8 => P (a, y)) = bigSep Finset.univ fun j : Fin 8 => bigSep Finset.univ fun p : Fin 3 => P (a, p, j) := by
    rw [BI.bigSep_univ_prod, BI.bigSep_univ_comm]
  rw [BI.bigSep_univ_prod, bigSep_four, h, h, h, h, ← bigSep_sep', ← bigSep_sep', ← bigSep_sep']
  refine BI.bigSep_congr fun j _ => ?_
  rw [← bigSep_sep', ← bigSep_sep', ← bigSep_sep', bigSep_three]

/-! ## Funding -/

theorem kcell_inj : Function.Injective (fun cx : Dev nD × Key => kcell cx.1 cx.2) := by
  rintro ⟨c, x⟩ ⟨c', x'⟩ h
  have h1 : c = c' := congrArg (fun g : GSem nD τ sig => g.1.1) h
  have h2 : x = x' := dloc_inj (congrArg Prod.snd h)
  rw [h1, h2]

theorem barCell_inj : Function.Injective (barCell : Dev nD → GSem nD τ sig) := fun _ _ h => congrArg (fun g : GSem nD τ sig => g.1.1) h

theorem cells_disjoint : Disjoint barCells keyCells := by
  rw [Finset.disjoint_left]
  intro g h h'
  obtain ⟨c, -, rfl⟩ := Finset.mem_image.mp h
  obtain ⟨cx, -, hx⟩ := Finset.mem_image.mp h'
  exact dloc_ne_bar cx.2 (congrArg Prod.snd hx)

/-- The device that pays a key's duty of device `c`: itself for a sent slot, the peer for a landed one. -/
def payE : Dev nD × Key ≃ Dev nD × Key where
  toFun cx := (if cx.2.1.val < 2 then cx.1 else peer cx.2.2.1 cx.1, cx.2)
  invFun cx := (if cx.2.1.val < 2 then cx.1 else peer cx.2.2.1 cx.1, cx.2)
  left_inv cx := by
    obtain ⟨c, x⟩ := cx
    by_cases h : x.1.val < 2
    · simp only [if_pos h]
    · simp only [if_neg h, peer_peer]
  right_inv cx := by
    obtain ⟨c, x⟩ := cx
    by_cases h : x.1.val < 2
    · simp only [if_pos h]
    · simp only [if_neg h, peer_peer]

/-- The barrier duties' tokens, and the transfers'. -/
def barTok : Dev nD × Fin 3 ↪ GSem nD τ sig × ℕ × Fin 3 :=
  ⟨fun cp => (barCell cp.1, 0, cp.2), fun a b h => by
    have h1 := barCell_inj (congrArg Prod.fst h)
    have h2 : a.2 = b.2 := congrArg (fun t : GSem nD τ sig × ℕ × Fin 3 => t.2.2) h
    exact Prod.ext h1 h2⟩
def keyTok : Dev nD × Key ↪ GSem nD τ sig × ℕ × Fin 3 :=
  ⟨fun cx => (kcell cx.1 cx.2, 0, 0), fun _ _ h => kcell_inj (congrArg Prod.fst h)⟩

def toks : Finset (GSem nD τ sig × ℕ × Fin 3) := Finset.univ.map barTok ∪ Finset.univ.map keyTok

theorem toks_disjoint : Disjoint (Finset.univ.map barTok) (Finset.univ.map keyTok) := by
  rw [Finset.disjoint_left]
  intro g h h'
  obtain ⟨c, -, rfl⟩ := Finset.mem_map.mp h
  obtain ⟨cx, -, hx⟩ := Finset.mem_map.mp h'
  exact dloc_ne_bar cx.2 (congrArg (fun t : GSem nD τ sig × ℕ × Fin 3 => t.1.2) hx)

/-- The protocol's element at launch: every cell dormant, every token. -/
def launched : URounds (GSem nD τ sig) (Fin 3) := launchOf ∅ cells toks

/-- The tokens with which device `c` pays at step `j` for the transfers to peer `p`. -/
def tokP (c : Dev nD) (j : Fin 8) (p : Fin 3) : sProp 𝕄 :=
  iprop(dutyTok ER (kcell c (0, p, j)) 0 0 ∗ dutyTok ER (kcell c (1, p, j)) 0 0
    ∗ dutyTok ER (kcell (peer p c) (2, p, j)) 0 0 ∗ dutyTok ER (kcell (peer p c) (3, p, j)) 0 0)

/-- What the launch deals device `c`: the invariants, the rights to open its cells, its tokens. -/
def dealt (c : Dev nD) : sProp 𝕄 :=
  iprop((∃ K, invs X K) ∗ openTok ER (barCell c) ∗ (bigSep Finset.univ fun x : Key => openTok ER (kcell c x))
    ∗ tri (fun p => dutyTok ER (barCell (peer p c)) 0 p) ∗ bigSep Finset.univ fun j => tri (tokP c j))

omit [FloatOps F] [Named F] in
theorem bigSep_cells (P : GSem nD τ sig → sProp 𝕄) :
    bigSep cells P = iprop((bigSep Finset.univ fun c : Dev nD => P (barCell c)) ∗ bigSep Finset.univ fun c : Dev nD => bigSep Finset.univ fun x : Key => P (kcell c x)) := by
  rw [cells_eq, BI.bigSep_union cells_disjoint]
  unfold barCells keyCells
  rw [show Finset.univ.image barCell = Finset.univ.map ⟨barCell, barCell_inj⟩ from (Finset.map_eq_image ⟨barCell, barCell_inj⟩ Finset.univ).symm,
    show (Finset.univ : Finset (Dev nD × Key)).image (fun cx => kcell cx.1 cx.2) = Finset.univ.map ⟨fun cx : Dev nD × Key => kcell cx.1 cx.2, kcell_inj⟩ from (Finset.map_eq_image ⟨fun cx : Dev nD × Key => kcell cx.1 cx.2, kcell_inj⟩ Finset.univ).symm,
    BI.bigSep_map, BI.bigSep_map, BI.bigSep_univ_prod]
  rfl

omit [FloatOps F] [Named F] in
theorem bigSep_toks (P : GSem nD τ sig × ℕ × Fin 3 → sProp 𝕄) :
    bigSep toks P = iprop((bigSep Finset.univ fun c : Dev nD => bigSep Finset.univ fun p : Fin 3 => P (barCell c, 0, p))
      ∗ bigSep Finset.univ fun cx : Dev nD × Key => P (kcell cx.1 cx.2, 0, 0)) := by
  unfold toks
  rw [BI.bigSep_union toks_disjoint, BI.bigSep_map, BI.bigSep_map, BI.bigSep_univ_prod]
  rfl

omit [FloatOps F] [Named F] in
theorem deal_bar : (bigSep Finset.univ fun c : Dev nD => bigSep Finset.univ fun p : Fin 3 => dutyTok ER (barCell c) 0 p : sProp 𝕄)
    = bigSep Finset.univ fun c : Dev nD => tri (fun p => dutyTok ER (barCell (peer p c)) 0 p) := by
  rw [BI.bigSep_univ_comm]
  rw [show (fun p : Fin 3 => bigSep Finset.univ fun c : Dev nD => (dutyTok ER (barCell c) 0 p : sProp 𝕄))
      = fun p : Fin 3 => bigSep Finset.univ fun c : Dev nD => dutyTok ER (barCell (peer p c)) 0 p from
    funext fun p => BI.bigSep_univ_equiv (peerE p) (fun c : Dev nD => (dutyTok ER (barCell c) 0 p : sProp 𝕄)), BI.bigSep_univ_comm]
  exact BI.bigSep_congr fun c _ => bigSep_three _

omit [FloatOps F] [Named F] in
theorem deal_key : (bigSep Finset.univ fun cx : Dev nD × Key => dutyTok ER (kcell cx.1 cx.2) 0 0 : sProp 𝕄)
    = bigSep Finset.univ fun c : Dev nD => bigSep Finset.univ fun j : Fin 8 => tri (tokP c j) := by
  rw [BI.bigSep_univ_equiv payE, BI.bigSep_univ_prod]
  refine BI.bigSep_congr fun c _ => ?_
  rw [bigSep_keys]
  rfl

omit [FloatOps F] [Named F] in
theorem dealt_all : bigSep Finset.univ (dealt X) = iprop((bigSep Finset.univ fun _ : Dev nD => iprop(∃ K, invs X K))
    ∗ (bigSep Finset.univ fun c : Dev nD => openTok ER (barCell c))
    ∗ (bigSep Finset.univ fun c : Dev nD => bigSep Finset.univ fun x : Key => openTok ER (kcell c x))
    ∗ (bigSep Finset.univ fun c : Dev nD => tri (fun p => dutyTok ER (barCell (peer p c)) 0 p))
    ∗ bigSep Finset.univ fun c : Dev nD => bigSep Finset.univ fun j => tri (tokP c j)) := by
  rw [← bigSep_sep', ← bigSep_sep', ← bigSep_sep', ← bigSep_sep']
  rfl

omit [FloatOps F] [Named F] in
/-- The protocol's element at launch deals every device its share. -/
theorem fund_all : BI.own (ER launched) ⊢ (|={Set.univ}=> bigSep Finset.univ (dealt X) : sProp 𝕄) := by
  unfold launched
  iintro Hu
  imod (fund_launch ER (Rd X) (Finset.disjoint_empty_left cells) (fun g _ h => h) toks) $$ [Hu] with ⟨%K, -, Hinv, -, -, Hop, Htok⟩
  · isplitr
    · rw [BI.bigSep_empty]; iempintro
    · iexact Hu
  imodintro
  ihave HI := (Entails.of_eq (show bigSep (∅ ∪ cells) (fun g => cellInv ER (Rd X) (K g) g) = invs X K by rw [Finset.empty_union]; rfl)) $$ Hinv
  icases HI with #HI
  ihave ⟨Hob, Hok⟩ := (Entails.of_eq (bigSep_cells (fun g => (openTok ER g : sProp 𝕄)))) $$ Hop
  ihave ⟨Htb, Htk⟩ := (Entails.of_eq (bigSep_toks (fun x => (dutyTok ER x.1 x.2.1 x.2.2 : sProp 𝕄)))) $$ Htok
  ihave Htb := (Entails.of_eq (deal_bar (F := F))) $$ Htb
  ihave Htk := (Entails.of_eq (deal_key (F := F))) $$ Htk
  iapply (Entails.of_eq (dealt_all X).symm)
  isplitr
  · iapply (bigSep_of_persistent Finset.univ iprop(∃ K, invs X K)); iexists K; iexact HI
  isplitl [Hob]; · iexact Hob
  isplitl [Hok]; · iexact Hok
  isplitl [Htb]; · iexact Htb
  iexact Htk

/-! ## The barrier cells opened -/

/-- What device `c` enters the kernel with. -/
def start (c : Dev nD) : sProp 𝕄 :=
  iprop((∃ K, invs X K) ∗ levAts L lv ∗ (bigSep Finset.univ fun x : Key => openTok ER (kcell c x))
    ∗ tri (fun p => iprop(dutyTok ER (barCell (peer p c)) 0 p ∗ reached ER (barCell (peer p c)) 0)) ∗ barW c
    ∗ (bigSep Finset.univ fun j => tri (tokP c j)) ∗ bigSep Finset.univ fun j => tri (credP c j))

omit [FloatOps F] [Named F] in
/-- Each device opens its barrier cell, which all are then told of. -/
theorem init_all :
    iprop((bigSep Finset.univ fun c : Dev nD => iprop(semVal (barCell c) 0 ∗ Pipeline.launchCred O₀ c ∗ dealt X c)) ∗ levAts L lv)
      ⊢ (|={Set.univ}=> bigSep Finset.univ (start X) : sProp 𝕄) := by
  let mid (c : Dev nD) : sProp 𝕄 := iprop((∃ K, invs X K) ∗ (bigSep Finset.univ fun x : Key => openTok ER (kcell c x))
    ∗ tri (fun p => dutyTok ER (barCell (peer p c)) 0 p) ∗ barW c
    ∗ (bigSep Finset.univ fun j => tri (tokP c j)) ∗ bigSep Finset.univ fun j => tri (credP c j))
  have hone (c : Dev nD) : iprop(semVal (barCell c) 0 ∗ Pipeline.launchCred O₀ c ∗ dealt X c)
      ⊢ (|={Set.univ}=> iprop(reached ER (barCell c) 0 ∗ mid c) : sProp 𝕄) := by
    unfold dealt
    iintro ⟨Hv, Hcr, ⟨%K, #HI⟩, Hob, Hok, Htb, Htk⟩
    ihave ⟨Hcb, Hck⟩ := (creds (F := F) c) $$ Hcr
    ihave #Hi := (invs_bar X K c) $$ HI
    imod (cell_open ER (Rd X) (g := barCell c) (κ := K (barCell c)) (Set.mem_univ _)) $$ [Hv Hob] with ⟨Hat, Hr⟩
    · isplitr; · iexact Hi
      isplitl [Hob] <;> iassumption
    imodintro
    isplitl [Hr]; · iexact Hr
    isplitr; · iexists K; iexact HI
    isplitl [Hok]; · iexact Hok
    isplitl [Htb]; · iexact Htb
    isplitl [Hcb Hat]; · unfold barW; isplitl [Hcb] <;> iassumption
    isplitl [Htk] <;> iassumption
  have hall : (bigSep Finset.univ fun c : Dev nD => iprop(semVal (barCell c) 0 ∗ Pipeline.launchCred O₀ c ∗ dealt X c))
      ⊢ (|={Set.univ}=> iprop((bigSep Finset.univ fun c : Dev nD => reached ER (barCell c) 0) ∗ bigSep Finset.univ mid) : sProp 𝕄) :=
    ((bigSep_mono fun c _ => hone c).trans (bigSep_fupd _ _)).trans (BI.fupd_mono (Entails.of_eq (bigSep_sep' _ _ _)))
  have hlast (c : Dev nD) (_ : c ∈ Finset.univ) :
      iprop(((bigSep Finset.univ fun c : Dev nD => reached ER (barCell c) 0) ∗ levAts L lv) ∗ mid c) ⊢ (start X c : sProp 𝕄) := by
    unfold start
    iintro ⟨⟨#HR, #Hlev⟩, HI, Hok, Htb, HW, Htk, Hck⟩
    have hr (p : Fin 3) : (bigSep Finset.univ fun c : Dev nD => reached ER (barCell c) 0) ⊢ (reached ER (barCell (peer p c)) 0 : sProp 𝕄) :=
      BI.bigSep_elim (Φ := fun c : Dev nD => (reached ER (barCell c) 0 : sProp 𝕄)) (Finset.mem_univ (peer p c))
    ihave #H0 := (hr 0) $$ HR
    ihave #H1 := (hr 1) $$ HR
    ihave #H2 := (hr 2) $$ HR
    isplitl [HI]; · iexact HI
    isplitr; · iexact Hlev
    isplitl [Hok]; · iexact Hok
    isplitl [Htb]
    · unfold tri
      icases Htb with ⟨T0, T1, T2⟩
      isplitl [T0]; · isplitl [T0]; · iexact T0
                      iexact H0
      isplitl [T1]; · isplitl [T1]; · iexact T1
                      iexact H1
      isplitl [T2]; · iexact T2
      iexact H2
    isplitl [HW]; · iexact HW
    isplitl [Htk] <;> iassumption
  iintro ⟨H, #Hlev⟩
  imod hall $$ H with ⟨#HR, HM⟩
  imodintro
  iapply (bigSep_with_persistent (R := iprop((bigSep Finset.univ fun c : Dev nD => reached ER (barCell c) 0) ∗ levAts L lv)) hlast)
  isplitr
  · isplitr; · iexact HR
    iexact Hlev
  iexact HM

/-! ## The transfers' cells opened -/

/-- A step's transfers not yet begun, and the marks that the receive cells are open. -/
def readyP (c : Dev nD) (j : Fin 8) (p : Fin 3) : sProp 𝕄 :=
  iprop(freshP c j p ∗ reached ER (kcell c (2, p, j)) 0 ∗ reached ER (kcell c (3, p, j)) 0)

/-- What device `c` has once its cells are open. -/
def opened (c : Dev nD) : sProp 𝕄 :=
  iprop((∃ K, invs X K) ∗ levAts L lv
    ∗ tri (fun p => iprop(dutyTok ER (barCell (peer p c)) 0 p ∗ reached ER (barCell (peer p c)) 0)) ∗ barW c
    ∗ bigSep Finset.univ fun j => tri (readyP c j))

omit [FloatOps F] [Named F] in
theorem tri_sep (P Q : Fin 3 → sProp 𝕄) : tri (fun p => iprop(P p ∗ Q p)) = iprop(tri P ∗ tri Q) := by
  rw [show ∀ R : Fin 3 → sProp 𝕄, tri R = bigSep Finset.univ R from fun R => (bigSep_three R).symm, show ∀ R : Fin 3 → sProp 𝕄, tri R = bigSep Finset.univ R from fun R => (bigSep_three R).symm,
    show ∀ R : Fin 3 → sProp 𝕄, tri R = bigSep Finset.univ R from fun R => (bigSep_three R).symm, bigSep_sep']

omit [FloatOps F] [Named F] in
theorem tri_mono {P Q : Fin 3 → sProp 𝕄} (h : ∀ p, P p ⊢ Q p) : tri P ⊢ tri Q := BI.sep_mono (h 0) (BI.sep_mono (h 1) (h 2))

omit [FloatOps F] [Named F] in
/-- Entering the kernel, a device opens every cell of its transfers. -/
theorem open_all (c : Dev nD) : iprop(start X c ∗ bigSep Finset.univ fun x : Key => semVal (kcell c x) 0)
    ⊢ (|={Set.univ}=> opened X c : sProp 𝕄) := by
  unfold start opened
  iintro ⟨⟨⟨%K, #HI⟩, #Hlev, Hok, Htb, HW, Htk, Hck⟩, Hv⟩
  have hone : iprop(invs X K ∗ bigSep Finset.univ fun x : Key => iprop(openTok ER (kcell c x) ∗ semVal (kcell c x) 0))
      ⊢ (|={Set.univ}=> bigSep Finset.univ fun x : Key => iprop(atPos ER (kcell c x) 0 ∅ 0 ∗ reached ER (kcell c x) 0) : sProp 𝕄) := by
    refine (bigSep_with_persistent (R := invs X K) fun x _ => ?_).trans (bigSep_fupd _ _)
    iintro ⟨#HI, Ho, Hv⟩
    ihave #Hi := (invs_key X K c x) $$ HI
    iapply (cell_open ER (Rd X) (g := kcell c x) (κ := K (kcell c x)) (Set.mem_univ _))
    isplitr; · iexact Hi
    isplitl [Ho] <;> iassumption
  imod hone $$ [Hok Hv] with HA
  · isplitr; · iexact HI
    rw [bigSep_sep']
    isplitl [Hok] <;> iassumption
  imodintro
  isplitr; · iexists K; iexact HI
  isplitr; · iexact Hlev
  isplitl [Htb]; · iexact Htb
  isplitl [HW]; · iexact HW
  have hkeys : (bigSep Finset.univ fun x : Key => iprop(atPos ER (kcell c x) 0 ∅ 0 ∗ reached ER (kcell c x) 0) : sProp 𝕄)
      = bigSep Finset.univ fun j : Fin 8 => tri fun p => iprop((atPos ER (kcell c (0, p, j)) 0 ∅ 0 ∗ reached ER (kcell c (0, p, j)) 0)
        ∗ (atPos ER (kcell c (1, p, j)) 0 ∅ 0 ∗ reached ER (kcell c (1, p, j)) 0)
        ∗ (atPos ER (kcell c (2, p, j)) 0 ∅ 0 ∗ reached ER (kcell c (2, p, j)) 0)
        ∗ (atPos ER (kcell c (3, p, j)) 0 ∅ 0 ∗ reached ER (kcell c (3, p, j)) 0)) := bigSep_keys _
  have hj : iprop((bigSep Finset.univ fun x : Key => iprop(atPos ER (kcell c x) 0 ∅ 0 ∗ reached ER (kcell c x) 0))
      ∗ (bigSep Finset.univ fun j => tri (tokP c j)) ∗ bigSep Finset.univ fun j => tri (credP c j)) ⊢ (bigSep Finset.univ fun j => tri (readyP c j) : sProp 𝕄) := by
    rw [hkeys, ← bigSep_sep', ← bigSep_sep']
    refine bigSep_mono fun j _ => ?_
    rw [← tri_sep, ← tri_sep]
    refine tri_mono fun p => ?_
    unfold tokP credP readyP freshP wt
    iintro ⟨⟨⟨A0, #R0⟩, ⟨A1, #R1⟩, ⟨A2, #R2⟩, ⟨A3, #R3⟩⟩, ⟨T0, T1, T2, T3⟩, C2, C3⟩
    isplitl [A0 A1 A2 A3 T0 T1 T2 T3 C2 C3]
    · isplitl [A0 T0]
      · isplitl [A0]; · iexact A0
        isplitl [T0]; · iexact T0
        iexact R0
      isplitl [A1 T1]
      · isplitl [A1]; · iexact A1
        isplitl [T1]; · iexact T1
        iexact R1
      isplitl [C2 A2]; · isplitl [C2]; · iexact C2
                         iexact A2
      isplitl [C3 A3]; · isplitl [C3]; · iexact C3
                         iexact A3
      isplitl [T2]; · iexact T2
      iexact T3
    · isplitr; · iexact R2
      iexact R3
  iapply hj
  isplitl [HA]; · iexact HA
  isplitl [Htk] <;> iassumption

end Cert.FlashProof

end
-- ==== Proof.Data.lean ====
/-
  The pipeline on each device: the table its index maps read, the blocks each step finds, the values the program sends, and
  what the loop keeps between steps; and the body at every step.
-/
module

public import proofs.«01_k».proof.Proof.Fund

@[expose] public section

noncomputable section

namespace Cert.FlashProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

open Idealize.ShloMosaic.Pipeline (RDat)

variable (m : (ℓ : Loc nD τ sig) → Buf (Elt F) ℓ)

/-! ## The table -/

/-- The word device `c` computes for its row of the mesh. -/
def xw (c : Dev nD) : BitVec 32 := BitVec.ofNat 32 (c.val / 2)

/-- Device `c`'s table: that word. -/
def tab (c : Dev nD) : pre0.Contents (Elt F)
  | 0 => fun _ => xw c
  | ⟨_ + 1, h⟩ => absurd h (Nat.not_lt.2 (Nat.le_add_left _ _))

theorem V1_tab (c : Dev nD) : V1 m c main_v5 = tab (F := F) c 0 := by
  unfold V1
  after_results
  funext j
  show IntOp.remui .host (IntOp.divui .host (Dev.word c) 2#32) 2#32 = xw c
  revert c; decide

/-- The block index of the inputs at a step: the batch and the half of the heads. -/
def ixOf (c : Dev nD) (i : grid0.Coords) : Fin 4 → Nat := ![4 * (c.val / 2) + (i 0).val / 2, 0, (i 0).val % 2, 0]

theorem ix_0 (c : Dev nD) (i : grid0.Coords) : cc0_transform_0 inb_S1_S1_0 numel1_S1 (tab (F := F) c) i = ixOf c i := by
  unfold cc0_transform_0 ixOf
  rw [show (tab (F := F) c).at 0 (Rect.unit (s := S1) ![0] S1.size inb_S1_S1_0) numel1_S1 = xw c from rfl]
  generalize i 0 = k
  revert c k; decide

theorem ix_1 (c : Dev nD) (i : grid0.Coords) : cc0_transform_1 inb_S1_S1_0 numel1_S1 (tab (F := F) c) i = ixOf c i := by
  unfold cc0_transform_1 ixOf
  rw [show (tab (F := F) c).at 0 (Rect.unit (s := S1) ![0] S1.size inb_S1_S1_0) numel1_S1 = xw c from rfl]
  generalize i 0 = k
  revert c k; decide

theorem ix_2 (c : Dev nD) (i : grid0.Coords) : cc0_transform_2 inb_S1_S1_0 numel1_S1 (tab (F := F) c) i = ixOf c i := by
  unfold cc0_transform_2 ixOf
  rw [show (tab (F := F) c).at 0 (Rect.unit (s := S1) ![0] S1.size inb_S1_S1_0) numel1_S1 = xw c from rfl]
  generalize i 0 = k
  revert c k; decide

theorem ixOf_q (c : Dev nD) (i : grid0.Coords) : ∀ a, (ixOf c i a + 1) * S1x8x8x128.size a ≤ S8x8x16x128.size a := by
  unfold ixOf; generalize i 0 = k; revert c k; decide
theorem ixOf_kv (c : Dev nD) (i : grid0.Coords) : ∀ a, (ixOf c i a + 1) * S1x1024x8x128.size a ≤ S8x1024x16x128.size a := by
  unfold ixOf; generalize i 0 = k; revert c k; decide

theorem tab_ok (c : Dev nD) : ok0 (tab (F := F) c) := by
  refine ⟨fun i => ?_, fun i => ?_, fun i => ?_⟩
  · rw [ix_0]; exact ⟨ixOf_q c i, .inr (Affine.block_words_dvd (by decide) (by decide))⟩
  · rw [ix_1]; exact ⟨ixOf_kv c i, .inr (Affine.block_words_dvd (by decide) (by decide))⟩
  · rw [ix_2]; exact ⟨ixOf_kv c i, .inr (Affine.block_words_dvd (by decide) (by decide))⟩

/-- Each device's admissible table. -/
def adm (c : Dev nD) : (p : Fin 1) → (pcfgs (F := F) p).Adm := fun _ => ⟨tab c, tab_ok c⟩

/-- The pipeline of device `c`. -/
abbrev cfgc (c : Dev nD) : Pipeline.Cfg sig Λ₀ := Pipeline.pinD (pcfgs (F := F)) adm c 0

/-! ## The blocks -/

/-- Step `j` as a point of the grid. -/
def pt (j : Fin 8) : Fin grid0.N := ⟨j.val, by rw [N_0]; exact j.2⟩

/-- The blocks of the queries, keys and values that step `j` of device `c` reads. -/
def qB (c : Dev nD) (j : Fin 8) : S1x8x8x128.Idx → Elt F .bf16 :=
  (((cfgc (F := F) c).win 0).blk (pt j)).view.read (Elt F) (V1 m c main_arg0)
def kB (c : Dev nD) (j : Fin 8) : S1x1024x8x128.Idx → Elt F .bf16 :=
  (((cfgc (F := F) c).win 1).blk (pt j)).view.read (Elt F) (V1 m c main_arg1)
def vB (c : Dev nD) (j : Fin 8) : S1x1024x8x128.Idx → Elt F .bf16 :=
  (((cfgc (F := F) c).win 2).blk (pt j)).view.read (Elt F) (V1 m c main_arg2)

/-- What each step sends, as the kernel computes it from its blocks. -/
def sent : Sent F where
  o c j := k0_pay46 (k0_pay43 (qB m c j) (kB m c j)) (k0_pay45 (vB m c j))
  s c j := (rowIn 1).overlay ((rowIn 0).overlay (fun _ => k0_pay47 (k0_pay42 (qB m c j) (kB m c j)) (fun a => ⟨0, by revert a; decide⟩))
    (k0_pay47 (k0_pay42 (qB m c j) (kB m c j)))) (k0_pay48 (k0_pay44 (qB m c j) (kB m c j)))

theorem sent_by (c : Dev nD) (j : Fin 8) : SentBy (sent m) c j (qB m c j) (kB m c j) (vB m c j) :=
  ⟨rfl, by show rowOf 0 ((rowIn 1).overlay _ _) = _; rw [rowOf_overlay_ne, rowOf_overlay_self], rowOf_overlay_self 1 _ _⟩

/-! ## What the loop keeps -/

/-- Every point is some step. -/
theorem pt_cases (t : Fin grid0.N) : ∃ j : Fin 8, t = pt j := ⟨⟨t.val, t.2.trans_eq N_0⟩, rfl⟩
theorem coords_pt (j : Fin 8) : (grid0.coords (pt j) 0).val = j.val := by revert j; decide

/-- The block index moves at every step after the first. -/
theorem ixOf_moves (c : Dev nD) (j j' : Fin 8) (h : j.val = j'.val + 1) : ixOf c (grid0.coords (pt j)) ≠ ixOf c (grid0.coords (pt j')) := by
  revert c j j'; decide

theorem fetch_of_moves (c : Dev nD) (w : Fin 4) (ho : ((cfgc (F := F) c).win w).isOut = false)
    (hne : ∀ j j' : Fin 8, j.val = j'.val + 1 → ((cfgc (F := F) c).win w).index (pt j) ≠ ((cfgc (F := F) c).win w).index (pt j')) (j : Fin 8) :
    ((cfgc (F := F) c).win w).fetch (pt j) = true := by
  unfold Pipeline.Window.fetch
  rw [ho]
  by_cases h0 : (pt j).val = 0
  · rw [decide_eq_true h0]; rfl
  · have hp : 0 < (pt j).val := Nat.pos_of_ne_zero h0
    have hj : j.val ≠ 0 := h0
    have hd : ∃ h : 0 < (pt j).val, ((cfgc (F := F) c).win w).index (pt j) ≠ ((cfgc (F := F) c).win w).index ⟨(pt j).val - 1, lt_of_le_of_lt (Nat.sub_le _ _) (pt j).2⟩ :=
      ⟨hp, hne j ⟨j.val - 1, by omega⟩ (show j.val = j.val - 1 + 1 by omega)⟩
    rw [decide_eq_true hd, Bool.or_true]; rfl

theorem ne_of_ix {α : Type} {a a' b b' : α} (ha : a = b) (ha' : a' = b') (h : b ≠ b') : a ≠ a' := ha ▸ ha' ▸ h

theorem fetch_0 (c : Dev nD) (j : Fin 8) : ((cfgc (F := F) c).win 0).fetch (pt j) = true :=
  fetch_of_moves c 0 rfl (fun j j' h => ne_of_ix (ix_0 (F := F) c (grid0.coords (pt j))) (ix_0 (F := F) c (grid0.coords (pt j'))) (ixOf_moves c j j' h)) j
theorem fetch_1 (c : Dev nD) (j : Fin 8) : ((cfgc (F := F) c).win 1).fetch (pt j) = true :=
  fetch_of_moves c 1 rfl (fun j j' h => ne_of_ix (ix_1 (F := F) c (grid0.coords (pt j))) (ix_1 (F := F) c (grid0.coords (pt j'))) (ixOf_moves c j j' h)) j
theorem fetch_2 (c : Dev nD) (j : Fin 8) : ((cfgc (F := F) c).win 2).fetch (pt j) = true :=
  fetch_of_moves c 2 rfl (fun j j' h => ne_of_ix (ix_2 (F := F) c (grid0.coords (pt j))) (ix_2 (F := F) c (grid0.coords (pt j'))) (ixOf_moves c j j' h)) j

/-- The result's window is written back after the last step only. -/
theorem flush_3 (c : Dev nD) (t : Fin grid0.N) : ((cfgc (F := F) c).win 3).flush t = decide (t.val = 7) := by
  have hix : ∀ t' : Fin grid0.N, ((cfgc (F := F) c).win 3).index t' = ((cfgc (F := F) c).win 3).index t := fun _ => rfl
  unfold Pipeline.Window.flush
  have hN : (t.val + 1 = grid0.N) ↔ t.val = 7 :=
    ⟨fun h => Nat.succ.inj (h.trans N_0), fun h => (congrArg Nat.succ h).trans N_0.symm⟩
  have hno : ¬ ∃ h : t.val + 1 < grid0.N, ((cfgc (F := F) c).win 3).index ⟨t.val + 1, h⟩ ≠ ((cfgc (F := F) c).win 3).index t :=
    fun ⟨h, hn⟩ => hn (hix _)
  rw [decide_eq_false hno, Bool.or_false, decide_eq_decide.2 hN]; rfl

/-- What stays with the device between steps: the invariants, the table, and the state of every step's transfers. -/
def keep (c : Dev nD) (t : ℕ) : sProp 𝕄 :=
  iprop((∃ K, invs (sent m) K) ∗ levAts L lv ∗ Pipeline.prefHeld pre0 c (fun _ => fullShare) (tab (F := F) c)
    ∗ (if t = 0 then iprop(tri (barP c) ∗ barW c ∗ bigSep Finset.univ (fresh₀ c))
        else iprop(semVal (barCell c) 0 ∗ bigSep Finset.univ (stage (sent m) c t))))

theorem keep_zero (c : Dev nD) : keep m c 0 = iprop((∃ K, invs (sent m) K) ∗ levAts L lv ∗ Pipeline.prefHeld pre0 c (fun _ => fullShare) (tab (F := F) c)
    ∗ tri (barP c) ∗ barW c ∗ bigSep Finset.univ (fresh₀ c)) := by unfold keep; rw [if_pos rfl]
theorem keep_pos (c : Dev nD) (t : ℕ) (h : t ≠ 0) : keep m c t = iprop((∃ K, invs (sent m) K) ∗ levAts L lv
    ∗ Pipeline.prefHeld pre0 c (fun _ => fullShare) (tab (F := F) c)
    ∗ semVal (barCell c) 0 ∗ bigSep Finset.univ (stage (sent m) c t)) := by unfold keep; rw [if_neg h]

/-- The loop's data on device `c`: the inputs' windows leave the blocks as they found them; the result's window holds
    the steps merged so far. -/
def rdat (c : Dev nD) : RDat τ (Elt F) Unit ℕ UU ℕ (cfgc (F := F) c) c where
  A w := V1 m c (Pipeline.arrRef spec0 w)
  after
    | 0 => fun _ Y X => X = Y
    | 1 => fun _ Y X => X = Y
    | 2 => fun _ Y X => X = Y
    | 3 => fun t _ X => Has (sent m) c (upto t.val) X
    | ⟨_ + 4, h⟩ => absurd h (Nat.not_lt.2 (Nat.le_add_left _ _))
  Φ t := keep m c t.val
  q _ := fullShare
  owed t := if t.val = 0 then O₀ c else owing c t.val

theorem finds_0 (c : Dev nD) (j : Fin 8) (Y) (h : (rdat m c).Finds 0 (pt j) Y) : Y = qB m c j := by
  obtain ⟨d, rfl⟩ := ((rdat m c).finds_of_fetch (fetch_0 c j) Y).1 h; rfl
theorem finds_1 (c : Dev nD) (j : Fin 8) (Y) (h : (rdat m c).Finds 1 (pt j) Y) : Y = kB m c j := by
  obtain ⟨d, rfl⟩ := ((rdat m c).finds_of_fetch (fetch_1 c j) Y).1 h; rfl
theorem finds_2 (c : Dev nD) (j : Fin 8) (Y) (h : (rdat m c).Finds 2 (pt j) Y) : Y = vB m c j := by
  obtain ⟨d, rfl⟩ := ((rdat m c).finds_of_fetch (fetch_2 c j) Y).1 h; rfl

theorem leaves_3 (c : Dev nD) (t : Fin (cfgc (F := F) c).N) (X) (h : (rdat m c).Leaves 3 t X) : Has (sent m) c (upto t.val) X := by
  obtain ⟨Y, -, h⟩ := h; exact h
theorem finds_3 (c : Dev nD) (j : Fin 8) (hj : j.val ≠ 0) (Y) (h : (rdat m c).Finds 3 (pt j) Y) :
    Has (sent m) c (fun j' => j'.val + 3 ≤ j.val) Y := by
  rcases ((rdat m c).finds_of_pos (Pipeline.Window.fetch_out _ rfl _) hj Y).1 h with hf | hl
  · rw [flush_3] at hf
    have h7 := of_decide_eq_true hf
    have hv : j.val - 1 = 7 := h7
    have := j.2; omega
  · refine Has.mono _ (leaves_3 m c _ Y hl) fun j' hj' => Or.inl ?_
    have hv : j'.val + 3 ≤ j.val := hj'
    show j'.val + 2 ≤ j.val - 1
    omega

theorem owes_in (c : Dev nD) (t : Fin ((cfgc (F := F) c).N + 1)) : owesW (F := F) c ((rdat m c).owed t) ⊢ ((rdat m c).owesAt () t : sProp 𝕄) := by
  unfold owesW RDat.owesAt Pipeline.owesWithin RDat.bound
  iintro ⟨%W, HO⟩; iexists W; isplitr; · ipureintro; exact fun _ _ => Or.inl trivial
  iexact HO
theorem owes_out (c : Dev nD) (t : Fin ((cfgc (F := F) c).N + 1)) : ((rdat m c).owesAt () t : sProp 𝕄) ⊢ owesW (F := F) c ((rdat m c).owed t) := by
  unfold owesW RDat.owesAt Pipeline.owesWithin
  iintro ⟨%W, -, HO⟩; iexists W; iexact HO

theorem owed_zero (c : Dev nD) (t) (h : t.val = 0) : (rdat m c).owed t = O₀ c := if_pos h
theorem owed_pos (c : Dev nD) (t) (h : t.val ≠ 0) : (rdat m c).owed t = owing c t.val := if_neg h

/-- The body at every step: the first by `wp_step_first`, every other by `wp_step`. -/
theorem body_ob (c : Dev nD) : (rdat m c).BodyObligation (defs₀ (F := F)) 𝒱₀ () Set.univ := by
  intro t Y hY
  obtain ⟨j, rfl⟩ := pt_cases t
  have h0 := finds_0 m c j _ (hY 0)
  have h1 := finds_1 m c j _ (hY 1)
  have h2 := finds_2 m c j _ (hY 2)
  rw [bigSep_W0, bigSep_W0]
  rw [h0, h1, h2]
  have hout : (rdat m c).owed (pt j).succ = owing c (j.val + 1) := owed_pos m c _ (Nat.succ_ne_zero _)
  rw [show (rdat m c).Φ (pt j).castSucc = keep m c j.val from rfl, show (rdat m c).Φ (pt j).succ = keep m c (j.val + 1) from rfl,
    keep_pos m c (j.val + 1) (Nat.succ_ne_zero _)]
  by_cases hj : j.val = 0
  · obtain rfl : j = 0 := Fin.ext hj
    have hin : (rdat m c).owed (pt 0).castSucc = O₀ c := owed_zero m c _ rfl
    rw [show keep m c (0 : Fin 8).val = keep m c 0 from rfl, keep_zero]
    iintro ⟨⟨⟨%K, #HI⟩, #Hlev, Hpf, Hb, Hw, Hf⟩, HO, H0, H1, H2, H3⟩
    ihave HO := (owes_out m c _) $$ HO
    rw [hin]
    iapply (wp_step_first (F := F) (sent m) K c (grid0.coords (pt 0)) _ _ _ _ _ _ _ _ _ _ fullShare fullShare fullShare
      (qB m c 0) (kB m c 0) (vB m c 0) (coords_pt 0) (sent_by m c 0)) $$ [HO Hb Hw Hf H0 H1 H2 H3]
    · isplitr; · iexact HI
      isplitr; · iexact Hlev
      isplitl [HO]; · iexact HO
      isplitl [Hb]; · iexact Hb
      isplitl [Hw]; · iexact Hw
      isplitl [Hf]; · iexact Hf
      isplitl [H0]; · iexact H0
      isplitl [H1]; · iexact H1
      isplitl [H2]; · iexact H2
      iexists _; iexact H3
    unfold outHas
    iintro ⟨HO, Hz, Hs, H0, H1, H2, ⟨%V, %hV, H3⟩⟩
    isplitl [Hpf Hz Hs]
    · isplitr; · iexists K; iexact HI
      isplitr; · iexact Hlev
      isplitl [Hpf]; · iexact Hpf
      isplitl [Hz]; · iexact Hz
      iexact Hs
    isplitl [HO]
    · iapply (owes_in m c (pt 0).succ); rw [hout]; iexact HO
    isplitl [H0]; · iexists _; isplitr; · ipureintro; rfl
                    iexact H0
    isplitl [H1]; · iexists _; isplitr; · ipureintro; rfl
                    iexact H1
    isplitl [H2]; · iexists _; isplitr; · ipureintro; rfl
                    iexact H2
    iexists V; isplitr; · ipureintro; exact hV
    iexact H3
  · have h3 := finds_3 m c j hj _ (hY 3)
    have hin : (rdat m c).owed (pt j).castSucc = owing c j.val := owed_pos m c _ hj
    rw [keep_pos m c j.val hj]
    iintro ⟨⟨⟨%K, #HI⟩, #Hlev, Hpf, Hz, Hs⟩, HO, H0, H1, H2, H3⟩
    ihave HO := (owes_out m c _) $$ HO
    rw [hin]
    iapply (wp_step (F := F) (sent m) K c (grid0.coords (pt j)) _ _ _ _ _ _ _ _ _ _ fullShare fullShare fullShare
      (qB m c j) (kB m c j) (vB m c j) j (coords_pt j) hj (sent_by m c j)) $$ [HO Hs H0 H1 H2 H3]
    · isplitr; · iexact HI
      isplitr; · iexact Hlev
      isplitl [HO]; · iexact HO
      isplitl [Hs]; · iexact Hs
      isplitl [H0]; · iexact H0
      isplitl [H1]; · iexact H1
      isplitl [H2]; · iexact H2
      unfold outHas
      iexists _; isplitr; · ipureintro; exact h3
      iexact H3
    unfold outHas
    iintro ⟨HO, Hs, H0, H1, H2, ⟨%V, %hV, H3⟩⟩
    isplitl [Hpf Hz Hs]
    · isplitr; · iexists K; iexact HI
      isplitr; · iexact Hlev
      isplitl [Hpf]; · iexact Hpf
      isplitl [Hz]; · iexact Hz
      iexact Hs
    isplitl [HO]
    · iapply (owes_in m c (pt j).succ); rw [hout]; iexact HO
    isplitl [H0]; · iexists _; isplitr; · ipureintro; rfl
                    iexact H0
    isplitl [H1]; · iexists _; isplitr; · ipureintro; rfl
                    iexact H1
    isplitl [H2]; · iexists _; isplitr; · ipureintro; rfl
                    iexact H2
    iexists V; isplitr; · ipureintro; exact hV
    iexact H3

end Cert.FlashProof

end
-- ==== Proof.Slots.lean ====
/-
  The slots: the kernel's scratch buffers cut into one slot per step when it starts, and joined again when it has ended.
-/
module

public import proofs.«01_k».proof.Proof.Data

@[expose] public section

noncomputable section

namespace Cert.FlashProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## Joining a family of rectangles -/

/-- Values given on every rectangle of a disjoint family are the parts of one function. -/
theorem exists_glue {sh : Shape} {α T : Type} [Nonempty α] (r : T → Rect sh) (hd : ∀ t t', t ≠ t' → Disjoint (r t).set (r t').set)
    (Y : (t : T) → (r t).shape.Idx → α) : ∃ X : sh.Idx → α, ∀ t, (fun z => X ((r t).emb z)) = Y t := by
  classical
  refine ⟨fun i => if h : ∃ p : (t : T) × (r t).shape.Idx, (r p.1).emb p.2 = i then Y h.choose.1 h.choose.2 else Classical.arbitrary α, fun t => funext fun z => ?_⟩
  have h : ∃ p : (t : T) × (r t).shape.Idx, (r p.1).emb p.2 = (r t).emb z := ⟨⟨t, z⟩, rfl⟩
  show (if h : ∃ p : (t : T) × (r t).shape.Idx, (r p.1).emb p.2 = (r t).emb z then Y h.choose.1 h.choose.2 else Classical.arbitrary α) = Y t z
  rw [dif_pos h]
  generalize hp : h.choose = p
  have he : (r p.1).emb p.2 = (r t).emb z := hp ▸ h.choose_spec
  obtain ⟨t', z'⟩ := p
  have ht : t' = t := by
    by_contra hne
    have m1 : (r t').emb z' ∈ (r t').set := (r t').map_emb_univ ▸ Finset.mem_map_of_mem _ (Finset.mem_univ z')
    have m2 : (r t').emb z' ∈ (r t).set := he ▸ (r t).map_emb_univ ▸ Finset.mem_map_of_mem _ (Finset.mem_univ z)
    exact Finset.disjoint_left.mp (hd t' t hne) m1 m2
  subst ht
  rw [(r t').emb.injective he]

/-! ## The slots of a buffer -/

theorem oRect_disjoint (j j' : Fin 8) (h : j ≠ j') : Disjoint (oRect j).set (oRect j').set := by
  rw [Finset.disjoint_left]
  rintro y h1 h2
  obtain ⟨a, rfl⟩ := (oRect j).exists_idx_of_mem h1
  obtain ⟨b, hb⟩ := (oRect j').exists_idx_of_mem h2
  have e := congrArg (fun i : S8x8x8x128.Idx => (i 0).val) hb
  have ha : ((a 0 : Fin (S1x8x8x128.size 0)).val) < 1 := (a 0).isLt
  have hb' : ((b 0 : Fin (S1x8x8x128.size 0)).val) < 1 := (b 0).isLt
  have e' : j'.val + 1 * (b 0).val = j.val + 1 * (a 0).val := e
  exact h (Fin.ext (by omega))
theorem sRect_disjoint (j j' : Fin 8) (h : j ≠ j') : Disjoint (sRect j).set (sRect j').set := by
  rw [Finset.disjoint_left]
  rintro y h1 h2
  obtain ⟨a, rfl⟩ := (sRect j).exists_idx_of_mem h1
  obtain ⟨b, hb⟩ := (sRect j').exists_idx_of_mem h2
  have e := congrArg (fun i : S8x2x8x8.Idx => (i 0).val) hb
  have ha : ((a 0 : Fin (S1x2x8x8.size 0)).val) < 1 := (a 0).isLt
  have hb' : ((b 0 : Fin (S1x2x8x8.size 0)).val) < 1 := (b 0).isLt
  have e' : j'.val + 1 * (b 0).val = j.val + 1 * (a 0).val := e
  exact h (Fin.ext (by omega))

theorem oRect_cover : (Finset.univ : Finset (Fin 8)).biUnion (fun j => (oRect j).set) = Finset.univ := by
  ext y
  simp only [Finset.mem_biUnion, Finset.mem_univ, true_and, iff_true]
  refine ⟨y 0, ?_⟩
  have : y = (oRect (y 0)).emb (fun | 0 => ⟨0, Nat.one_pos⟩ | 1 => y 1 | 2 => y 2 | 3 => y 3) := by
    funext a; apply Fin.ext
    match a with
    | 0 => show (y 0).val = (y 0).val + 1 * 0; omega
    | 1 => show (y 1).val = 0 + 1 * (y 1).val; omega
    | 2 => show (y 2).val = 0 + 1 * (y 2).val; omega
    | 3 => show (y 3).val = 0 + 1 * (y 3).val; omega
  rw [this]
  exact (oRect _).map_emb_univ ▸ Finset.mem_map_of_mem _ (Finset.mem_univ _)
theorem sRect_cover : (Finset.univ : Finset (Fin 8)).biUnion (fun j => (sRect j).set) = Finset.univ := by
  ext y
  simp only [Finset.mem_biUnion, Finset.mem_univ, true_and, iff_true]
  refine ⟨y 0, ?_⟩
  have : y = (sRect (y 0)).emb (fun | 0 => ⟨0, Nat.one_pos⟩ | 1 => y 1 | 2 => y 2 | 3 => y 3) := by
    funext a; apply Fin.ext
    match a with
    | 0 => show (y 0).val = (y 0).val + 1 * 0; omega
    | 1 => show (y 1).val = 0 + 1 * (y 1).val; omega
    | 2 => show (y 2).val = 0 + 1 * (y 2).val; omega
    | 3 => show (y 3).val = 0 + 1 * (y 3).val; omega
  rw [this]
  exact (sRect _).map_emb_univ ▸ Finset.mem_map_of_mem _ (Finset.mem_univ _)

omit [FloatOps F] [Named F] in
/-- A block buffer held at some contents is every slot of it held at some contents. -/
theorem oSlots_split (c : Dev nD) (M : Memref sig .tc .vmem S8x8x8x128 .bf16) :
    iprop(∃ X, ownsTc c M fullShare X) ⊢ (bigSep Finset.univ fun j => iprop(∃ Y, ownsTc c (oSlot M j) fullShare Y) : sProp 𝕄) := by
  iintro ⟨%X, H⟩
  ihave H := (owns_rects (c : Thread nD τ) M fullShare oRect (fun _ _ => rfl) oRect_disjoint oRect_cover X) $$ H
  have hone : ∀ j, ownsTc c (oSlot M j) fullShare (fun z => X ((oRect j).emb z)) ⊢ (iprop(∃ Y, ownsTc c (oSlot M j) fullShare Y) : sProp 𝕄) := fun j => by
    iintro H; iexists _; iexact H
  have hm : (bigSep Finset.univ fun j => ownsTc c (oSlot M j) fullShare (fun z => X ((oRect j).emb z)))
      ⊢ (bigSep Finset.univ fun j => iprop(∃ Y, ownsTc c (oSlot M j) fullShare Y) : sProp 𝕄) := bigSep_mono fun j _ => hone j
  iapply hm
  iexact H
omit [FloatOps F] [Named F] in
theorem sSlots_split (c : Dev nD) (M : Memref sig .tc .vmem S8x2x8x8 .f32) :
    iprop(∃ X, ownsTc c M fullShare X) ⊢ (bigSep Finset.univ fun j => iprop(∃ Y, ownsTc c (sSlot M j) fullShare Y) : sProp 𝕄) := by
  iintro ⟨%X, H⟩
  ihave H := (owns_rects (c : Thread nD τ) M fullShare sRect (fun _ _ => rfl) sRect_disjoint sRect_cover X) $$ H
  have hone : ∀ j, ownsTc c (sSlot M j) fullShare (fun z => X ((sRect j).emb z)) ⊢ (iprop(∃ Y, ownsTc c (sSlot M j) fullShare Y) : sProp 𝕄) := fun j => by
    iintro H; iexists _; iexact H
  have hm : (bigSep Finset.univ fun j => ownsTc c (sSlot M j) fullShare (fun z => X ((sRect j).emb z)))
      ⊢ (bigSep Finset.univ fun j => iprop(∃ Y, ownsTc c (sSlot M j) fullShare Y) : sProp 𝕄) := bigSep_mono fun j _ => hone j
  iapply hm
  iexact H

/-- Every slot held at given contents is the buffer held at some contents. -/
theorem oSlots_join (c : Dev nD) (M : Memref sig .tc .vmem S8x8x8x128 .bf16) (Y : Fin 8 → S1x8x8x128.Idx → Elt F .bf16) :
    (bigSep Finset.univ fun j => ownsTc c (oSlot M j) fullShare (Y j)) ⊢ (iprop(∃ X, ownsTc c M fullShare X) : sProp 𝕄) := by
  haveI hne : ∀ e, Nonempty (Elt F e) := inferInstance
  obtain ⟨X, hX⟩ := exists_glue (α := Elt F .bf16) oRect oRect_disjoint Y
  iintro H
  iexists X
  iapply (owns_of_rects (c : Thread nD τ) M fullShare oRect (fun _ _ => rfl) oRect_disjoint oRect_cover X)
  iapply (Entails.of_eq (bigSep_congr (Φ := fun j => ownsTc c (oSlot M j) fullShare (Y j)) (Ψ := fun j => ownsTc c (oSlot M j) fullShare (fun z => X ((oRect j).emb z))) fun j _ => by rw [← hX j]; rfl))
  iexact H
theorem sSlots_join (c : Dev nD) (M : Memref sig .tc .vmem S8x2x8x8 .f32) (Y : Fin 8 → S1x2x8x8.Idx → Elt F .f32) :
    (bigSep Finset.univ fun j => ownsTc c (sSlot M j) fullShare (Y j)) ⊢ (iprop(∃ X, ownsTc c M fullShare X) : sProp 𝕄) := by
  haveI hne : ∀ e, Nonempty (Elt F e) := inferInstance
  obtain ⟨X, hX⟩ := exists_glue (α := Elt F .f32) sRect sRect_disjoint Y
  iintro H
  iexists X
  iapply (owns_of_rects (c : Thread nD τ) M fullShare sRect (fun _ _ => rfl) sRect_disjoint sRect_cover X)
  iapply (Entails.of_eq (bigSep_congr (Φ := fun j => ownsTc c (sSlot M j) fullShare (Y j)) (Ψ := fun j => ownsTc c (sSlot M j) fullShare (fun z => X ((sRect j).emb z))) fun j _ => by rw [← hX j]; rfl))
  iexact H

omit [FloatOps F] [Named F] in
/-- The three shares of a slot are the slot whole. -/
theorem owns_unthree (c : Dev nD) {s : Shape} {e : EltTy} (M : Memref sig .tc .vmem s e) (V : s.Idx → Elt F e) :
    tri (fun p => ownsTc c M (shr p) V) ⊢ (ownsTc c M fullShare V : sProp 𝕄) := by
  unfold tri ownsTc shr
  iintro ⟨H0, H1, H2⟩
  iapply (owns_halves (c : Thread nD τ) M _ V).2
  isplitl [H0]; · iexact H0
  iapply (owns_halves (c : Thread nD τ) M _ V).2
  isplitl [H1]; · iexact H1
  iexact H2

omit [FloatOps F] [Named F] in
theorem bigSep_tri (P : Fin 8 → Fin 3 → sProp 𝕄) : (bigSep Finset.univ fun j => tri (P j)) = tri fun p => bigSep Finset.univ fun j => P j p := by
  unfold tri; rw [bigSep_sep', bigSep_sep']

omit [FloatOps F] [Named F] in
/-- The eight scratch buffers, as memrefs held at some contents. -/
theorem scratch_eq (c : Dev nD) : (Pipeline.scopedRest (Ix := Unit) (Name := ℕ) (U := UU) (Lvl := ℕ) (Val := Elt F) spec0 c : sProp 𝕄)
    = iprop((∃ X, ownsTc c oS fullShare X) ∗ (∃ X, ownsTc c sS fullShare X) ∗ (∃ X, ownsTc c (oR 0) fullShare X) ∗ (∃ X, ownsTc c (sR 0) fullShare X)
      ∗ (∃ X, ownsTc c (oR 1) fullShare X) ∗ (∃ X, ownsTc c (sR 1) fullShare X) ∗ (∃ X, ownsTc c (oR 2) fullShare X) ∗ (∃ X, ownsTc c (sR 2) fullShare X)) := by
  rw [scopedRest0_eq]
  simp only [ownsTc, owns_whole]
  rfl

variable (X : Sent F)

omit [FloatOps F] [Named F] in
/-- At the start: the scratch buffers cut into slots, each landing slot set aside to lend. -/
theorem enter (c : Dev nD) : iprop(opened X c ∗ Pipeline.scopedRest (Ix := Unit) (Name := ℕ) (U := UU) (Lvl := ℕ) (Val := Elt F) spec0 c)
    ⊢ (iprop((∃ K, invs X K) ∗ levAts L lv ∗ tri (barP c) ∗ barW c ∗ bigSep Finset.univ (fresh₀ c)) : sProp 𝕄) := by
  rw [scratch_eq]
  unfold opened
  iintro ⟨⟨HI, Hlev, Hb, Hw, Hr⟩, Ho, Hs, Ho0, Hs0, Ho1, Hs1, Ho2, Hs2⟩
  ihave Ho := (oSlots_split c oS) $$ Ho
  ihave Hs := (sSlots_split c sS) $$ Hs
  ihave Ho0 := (oSlots_split c (oR 0)) $$ Ho0
  ihave Hs0 := (sSlots_split c (sR 0)) $$ Hs0
  ihave Ho1 := (oSlots_split c (oR 1)) $$ Ho1
  ihave Hs1 := (sSlots_split c (sR 1)) $$ Hs1
  ihave Ho2 := (oSlots_split c (oR 2)) $$ Ho2
  ihave Hs2 := (sSlots_split c (sR 2)) $$ Hs2
  isplitl [HI]; · iexact HI
  isplitl [Hlev]; · iexact Hlev
  have hr : (bigSep Finset.univ fun j => tri (readyP (F := F) c j)) = iprop((bigSep Finset.univ fun j => tri (freshP (F := F) c j))
      ∗ tri fun p => bigSep Finset.univ fun j => iprop(reached ER (kcell c (2, p, j)) 0 ∗ reached ER (kcell c (3, p, j)) 0)) := by
    rw [← bigSep_tri, ← bigSep_sep']
    exact bigSep_congr fun j _ => tri_sep _ _
  ihave ⟨Hf, HR⟩ := (Entails.of_eq hr) $$ Hr
  ihave ⟨HR0, HR1, HR2⟩ := (Entails.of_eq (show (tri fun p => bigSep Finset.univ fun j => iprop(reached ER (kcell c (2, p, j)) 0 ∗ reached ER (kcell c (3, p, j)) 0) : sProp 𝕄) = iprop(_ ∗ _ ∗ _) from rfl)) $$ HR
  ihave ⟨Hb0, Hb1, Hb2⟩ := (Entails.of_eq (show (tri fun p => iprop(dutyTok ER (barCell (peer p c)) 0 p ∗ reached ER (barCell (peer p c)) 0) : sProp 𝕄) = iprop(_ ∗ _ ∗ _) from rfl)) $$ Hb
  have hlend : ∀ p : Fin 3, iprop((dutyTok ER (barCell (peer p c)) 0 p ∗ reached ER (barCell (peer p c)) 0)
      ∗ (bigSep Finset.univ fun j => iprop(∃ Y, ownsTc c (oSlot (oR p) j) fullShare Y)) ∗ (bigSep Finset.univ fun j => iprop(∃ Y, ownsTc c (sSlot (sR p) j) fullShare Y))
      ∗ bigSep Finset.univ fun j => iprop(reached ER (kcell c (2, p, j)) 0 ∗ reached ER (kcell c (3, p, j)) 0)) ⊢ (barP c p : sProp 𝕄) := fun p => by
    unfold barP lend
    rw [← bigSep_sep', ← bigSep_sep']
    iintro ⟨⟨Ht, Hr⟩, H⟩
    isplitl [Ht]; · iexact Ht
    isplitl [Hr]; · iexact Hr
    iexact H
  isplitl [Hb0 Hb1 Hb2 HR0 HR1 HR2 Ho0 Ho1 Ho2 Hs0 Hs1 Hs2]
  · unfold tri
    isplitl [Hb0 HR0 Ho0 Hs0]
    · iapply (hlend 0)
      isplitl [Hb0]; · iexact Hb0
      isplitl [Ho0]; · iexact Ho0
      isplitl [Hs0] <;> iassumption
    isplitl [Hb1 HR1 Ho1 Hs1]
    · iapply (hlend 1)
      isplitl [Hb1]; · iexact Hb1
      isplitl [Ho1]; · iexact Ho1
      isplitl [Hs1] <;> iassumption
    iapply (hlend 2)
    isplitl [Hb2]; · iexact Hb2
    isplitl [Ho2]; · iexact Ho2
    isplitl [Hs2] <;> iassumption
  isplitl [Hw]; · iexact Hw
  have hone : ∀ j, iprop((∃ Y, ownsTc c (oSlot oS j) fullShare Y) ∗ (∃ Y, ownsTc c (sSlot sS j) fullShare Y) ∗ tri (freshP (F := F) c j))
      ⊢ (fresh₀ c j : sProp 𝕄) := fun j => by
    unfold fresh₀ mine
    iintro ⟨H1, H2, H3⟩
    isplitr [H3]
    · isplitl [H1] <;> iassumption
    iexact H3
  have hf : iprop((bigSep Finset.univ fun j => iprop(∃ Y, ownsTc c (oSlot oS j) fullShare Y)) ∗ (bigSep Finset.univ fun j => iprop(∃ Y, ownsTc c (sSlot sS j) fullShare Y))
      ∗ bigSep Finset.univ fun j => tri (freshP (F := F) c j)) ⊢ (bigSep Finset.univ (fresh₀ c) : sProp 𝕄) := by
    rw [← bigSep_sep', ← bigSep_sep']
    exact bigSep_mono fun j _ => hone j
  iapply hf
  isplitl [Ho]; · iexact Ho
  isplitl [Hs] <;> iassumption

/-- At the end: every transfer's semaphore is zero, and the slots are the scratch buffers again. -/
theorem leave (c : Dev nD) : (bigSep Finset.univ (stage X c 8) : sProp 𝕄)
    ⊢ iprop((bigSep Finset.univ fun x : Key => semVal (kcell c x) 0) ∗ Pipeline.scopedRest (Ix := Unit) (Name := ℕ) (U := UU) (Lvl := ℕ) (Val := Elt F) spec0 c) := by
  have h1 : (bigSep Finset.univ (stage X c 8) : sProp 𝕄) ⊢ bigSep Finset.univ fun j => tri fun p => iprop(dn X c (0, p, j) ∗ dn X c (1, p, j) ∗ dn X c (2, p, j) ∗ dn X c (3, p, j)) :=
    bigSep_mono fun j _ => by
      unfold stage
      rw [if_pos (show j.val < 8 from j.2), if_pos (Or.inr rfl)]
      exact tri_mono fun p => by
        unfold doneP
        iintro ⟨A, B, C, D⟩
        isplitl [A]; · iexact A
        isplitl [C]; · iexact C
        isplitl [B] <;> iassumption
  have h2 : (bigSep Finset.univ fun j => tri fun p => iprop(dn X c (0, p, j) ∗ dn X c (1, p, j) ∗ dn X c (2, p, j) ∗ dn X c (3, p, j)) : sProp 𝕄)
      = iprop((bigSep Finset.univ fun x : Key => semVal (kcell c x) 0) ∗ bigSep Finset.univ fun x : Key => dmaPay X c x) := by
    rw [← bigSep_sep', ← bigSep_keys (fun x => dn X c x)]; rfl
  have h3 : (bigSep Finset.univ fun x : Key => dmaPay X c x : sProp 𝕄) = iprop((bigSep Finset.univ fun j => tri fun p => ownsTc c (oSlot oS j) (shr p) (X.o c j))
      ∗ (bigSep Finset.univ fun j => tri fun p => ownsTc c (sSlot sS j) (shr p) (X.s c j))
      ∗ (tri fun p => bigSep Finset.univ fun j => ownsTc c (oSlot (oR p) j) fullShare (X.o (peer p c) j))
      ∗ (tri fun p => bigSep Finset.univ fun j => ownsTc c (sSlot (sR p) j) fullShare (X.s (peer p c) j))) := by
    rw [bigSep_keys, ← bigSep_tri, ← bigSep_tri, ← bigSep_sep', ← bigSep_sep', ← bigSep_sep']
    refine bigSep_congr fun j _ => ?_
    rw [← tri_sep, ← tri_sep, ← tri_sep]; rfl
  refine h1.trans ((Entails.of_eq h2).trans ?_)
  rw [h3, scratch_eq]
  iintro ⟨Hv, Ho, Hs, HO, HS⟩
  ihave ⟨Ho0, Ho1, Ho2⟩ := (Entails.of_eq (show (tri fun p => bigSep Finset.univ fun j => ownsTc c (oSlot (oR p) j) fullShare (X.o (peer p c) j) : sProp 𝕄) = iprop(_ ∗ _ ∗ _) from rfl)) $$ HO
  ihave ⟨Hs0, Hs1, Hs2⟩ := (Entails.of_eq (show (tri fun p => bigSep Finset.univ fun j => ownsTc c (sSlot (sR p) j) fullShare (X.s (peer p c) j) : sProp 𝕄) = iprop(_ ∗ _ ∗ _) from rfl)) $$ HS
  isplitl [Hv]; · iexact Hv
  isplitl [Ho]
  · iapply (oSlots_join c oS (X.o c))
    iapply (show (bigSep Finset.univ fun j => tri fun p => ownsTc c (oSlot oS j) (shr p) (X.o c j) : sProp 𝕄) ⊢ bigSep Finset.univ fun j => ownsTc c (oSlot oS j) fullShare (X.o c j) from bigSep_mono fun j _ => owns_unthree c (oSlot oS j) (X.o c j)); iexact Ho
  isplitl [Hs]
  · iapply (sSlots_join c sS (X.s c))
    iapply (show (bigSep Finset.univ fun j => tri fun p => ownsTc c (sSlot sS j) (shr p) (X.s c j) : sProp 𝕄) ⊢ bigSep Finset.univ fun j => ownsTc c (sSlot sS j) fullShare (X.s c j) from bigSep_mono fun j _ => owns_unthree c (sSlot sS j) (X.s c j)); iexact Hs
  isplitl [Ho0]; · iapply (oSlots_join c (oR 0) (X.o (peer 0 c))); iexact Ho0
  isplitl [Hs0]; · iapply (sSlots_join c (sR 0) (X.s (peer 0 c))); iexact Hs0
  isplitl [Ho1]; · iapply (oSlots_join c (oR 1) (X.o (peer 1 c))); iexact Ho1
  isplitl [Hs1]; · iapply (sSlots_join c (sR 1) (X.s (peer 1 c))); iexact Hs1
  isplitl [Ho2]; · iapply (oSlots_join c (oR 2) (X.o (peer 2 c))); iexact Ho2
  iapply (sSlots_join c (sR 2) (X.s (peer 2 c))); iexact Hs2

end Cert.FlashProof

end
-- ==== Proof.Region.lean ====
/-
  The kernel region as one segment of the program: what it is entered with, what the loop starts and ends with, what it leaves.
-/
module

public import proofs.«01_k».proof.Proof.Slots
public import proofs.«01_k».proof.Proof.Gen.KernelIdeal.Regions

@[expose] public section

noncomputable section

namespace Cert.FlashProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

/-- The data of every pipeline: there is one. -/
def rdats : (p : Fin 1) → (c : Dev nD) → Pipeline.RDat τ (Elt F) Unit ℕ UU ℕ (Pipeline.pinD (pcfgs (F := F)) adm c p) c
  | 0, c => rdat m c
  | ⟨_ + 1, h⟩, _ => absurd h (Nat.not_lt.2 (Nat.le_add_left _ _))

theorem N_c (c : Dev nD) : (Pipeline.pinD (pcfgs (F := F)) adm c 0).N = 8 := N_0

omit [FloatOps F] [Named F] in
/-- The kernel's own semaphores: the transfers' cells. -/
theorem own_facts : Pipeline.OwnSemFacts spec0 dloc where
  isScoped k := by revert k; decide
  inj := dloc_inj
  disj k w s := by revert k w s; decide

omit [FloatOps F] [Named F] in
/-- What device `c` owes is owed above the level of a staging cell at every step. -/
theorem owed_cut (c : Dev nD) (t : ℕ) (g : GSem nD τ sig) (u : Unit) (h : 0 < (if t = 0 then O₀ c else owing c t) g u) : u ∈ L g ∧ 0 < lv g u := by
  have hk : ∀ t, 0 < owing c t g u → u ∈ L g ∧ 0 < lv g u := fun t h => by
    obtain ⟨d, a, p, j, ha, -, rfl⟩ := owedN_pos c _ g u h
    refine ⟨by rw [L_tc]; exact Finset.mem_singleton_self _, ?_⟩
    show 0 < lvl (dloc (a, p, j))
    rw [lvl_key, if_pos (show 2 ≤ (a, p, j).1.val from ha)]; omega
  have hb : ∀ d : Dev nD, 0 < (tallyAt (barCell d) () 1 : CellTallies nD τ sig Unit) g u → u ∈ L g ∧ 0 < lv g u := fun d h => by
    rw [tallyAt_apply] at h
    have hg : g = barCell d := by
      by_contra hne
      rw [if_neg (fun e => hne e.1)] at h
      exact absurd h (Nat.lt_irrefl 0)
    subst hg
    refine ⟨by rw [L_tc]; exact Finset.mem_singleton_self _, ?_⟩
    show 0 < lvl (.reg barS)
    rw [lvl_bar]; exact Nat.one_pos
  by_cases h0 : t = 0
  · rw [if_pos h0] at h
    unfold O₀ at h
    simp only [Pi.add_apply, Finsupp.add_apply] at h
    have h' : 0 < owing c 0 g u ∨ 0 < (tallyAt (barCell (peer 2 c)) () 1 : CellTallies nD τ sig Unit) g u
        ∨ 0 < (tallyAt (barCell (peer 1 c)) () 1 : CellTallies nD τ sig Unit) g u ∨ 0 < (tallyAt (barCell (peer 0 c)) () 1 : CellTallies nD τ sig Unit) g u := by omega
    rcases h' with h' | h' | h' | h'
    · exact hk 0 h'
    · exact hb _ h'
    · exact hb _ h'
    · exact hb _ h'
  · rw [if_neg h0] at h; exact hk t h

omit [FloatOps F] [Named F] in
theorem lvl_stage (w : Fin 4) (s : Fin (spec0 w).nbuf) : lvl (.dma ((spec0 w).sem s)) = 0 := by revert w s; decide

theorem tab_held (c : Dev nD) : (fun k => V1 m c (pre0.ref k)) = tab (F := F) c := by
  funext k
  match k with
  | 0 => exact V1_tab m c

theorem owed_last (c : Dev nD) : (rdat m c).owed (Fin.last _) = 0 := by
  rw [owed_pos m c _ (show (Fin.last _ : Fin ((cfgc (F := F) c).N + 1)).val ≠ 0 by show (cfgc (F := F) c).N ≠ 0; rw [show (cfgc (F := F) c).N = 8 from N_0]; decide)]
  rw [show (Fin.last (cfgc (F := F) c).N).val = 8 from N_0]
  exact owing_end c

/-- The kernel region: entered with the buffers after the host lines, the protocol's start and what the device owes; left
    with the arrays as the write-backs leave them, the barrier's counter at zero, nothing owed. -/
def reg : Pipeline.PerCore.RDat.RegionSeg (pcfgs (F := F)) adm (rdats m) () defs₀ 𝒱₀ L lv 0 where
  win := winFacts0.to₀
  block_pos := block_pos0
  stage_whole := stage_whole0
  K := Key
  osem := dloc
  ho := own_facts
  hbody c := body_ob m c
  hwaits c := Pipeline.PerCore.RDat.cellsWaits_intro (Pipeline.pinD (pcfgs (F := F)) adm) (rdats m) () 0 c fun w s t =>
    MayOwe.of_cut 0 (fun q hq => by rw [Finset.mem_singleton.mp hq, L_tc]; exact Finset.mem_singleton_self _)
      (fun g u hg => (owed_cut c t.val g u hg).1)
      (fun q hq => by rw [Finset.mem_singleton.mp hq]; exact (lvl_stage w s).le)
      (fun g u hg => (owed_cut c t.val g u hg).2)
  pre c := iprop(StableHlo.held (c : Thread nD τ) (Pipeline.ucRefs τ sig) (V1 m c) ∗ start (sent m) c ∗ owes (c : Thread nD τ) (O₀ c) ∅)
  post c := iprop((rdats m 0 c).arraysAt 8 ∗ semVal (barCell c) 0 ∗ ∃ W, owes (c : Thread nD τ) (0 : CellTallies nD τ sig Unit) W)
  X c := opened (sent m) c
  Y c := semVal (barCell c) 0
  Z _ := iprop(emp)
  hentry c := by
    rw [← Pipeline.unscopedBufs_held (Ix := Unit) (Name := ℕ) (U := UU) (Lvl := ℕ) c (V1 m c)]
    iintro ⟨⟨Hb, Hst, HO⟩, Hs, -⟩
    ihave Hb := (Pipeline.PerCore.RDat.arrays_of_unscopedBufs (pcfgs (F := F)) adm (rdats m) (p := 0) winFacts0 arr_whole0 c
      (fun w => by fin_cases w <;> rfl) (fun b => V1 m c b) (fun w => rfl)) $$ Hb
    icases Hb with ⟨Ha, Hr⟩
    ihave Hr := (Entails.of_eq (Pipeline.unscopedRest_split preFacts0 c (fun b => V1 m c b))) $$ Hr
    icases Hr with ⟨Hp, -⟩
    ihave Hs := (Entails.of_eq (show (Pipeline.ownSems0 dloc c : sProp 𝕄) = bigSep Finset.univ fun x : Key => semVal (kcell c x) 0 from rfl)) $$ Hs
    imod (open_all (sent m) c) $$ [Hst Hs] with HX
    · isplitl [Hst]; · iexact Hst
      iexact Hs
    imodintro
    isplitl [Ha]; · iexact Ha
    isplitl [Hp]; · iapply (Entails.of_eq (congrArg (Pipeline.prefHeld pre0 c fun _ => fullShare) (tab_held m c))); iexact Hp
    isplitl [HO]
    · iapply (owes_in m c 0); rw [owed_zero m c 0 rfl]; unfold owesW; iexists ∅; iexact HO
    isplitl [HX]; · iexact HX
    iempintro
  hin c := by
    rw [show (rdats m 0 c).Φ 0 = keep m c 0 from rfl, keep_zero]
    iintro ⟨HX, Hp, Hs⟩
    ihave H := (enter (sent m) c) $$ [HX Hs]
    · isplitl [HX]; · iexact HX
      iexact Hs
    icases H with ⟨HI, Hlev, Hb, Hw, Hf⟩
    isplitl [HI]; · iexact HI
    isplitl [Hlev]; · iexact Hlev
    isplitl [Hp]; · iexact Hp
    isplitl [Hb]; · iexact Hb
    isplitl [Hw]; · iexact Hw
    iexact Hf
  hout c := by
    rw [show (rdats m 0 c).Φ (Fin.last _) = keep m c 8 from rfl, keep_pos m c 8 (by decide)]
    iintro ⟨-, -, -, Hz, Hs⟩
    ihave H := (leave (sent m) c) $$ Hs
    icases H with ⟨Hv, Hs⟩
    isplitl [Hz]; · iexact Hz
    isplitl [Hv]; · iapply (Entails.of_eq (show (bigSep Finset.univ fun x : Key => semVal (kcell c x) 0 : sProp 𝕄) = Pipeline.ownSems0 dloc c from rfl)); iexact Hv
    iexact Hs
  hexit c := by
    iintro ⟨Ha, HO, Hz, -⟩
    imodintro
    isplitl [Ha]; · iexact Ha
    isplitl [Hz]; · iexact Hz
    ihave HO := (Entails.of_eq (show ((rdats m 0 c).owesAt () (Fin.last _) : sProp 𝕄) = (rdat m c).owesAt () (Fin.last _) from rfl)) $$ HO
    ihave HO := ((owes_out m c _).trans (Entails.of_eq (show (owesW c ((rdat m c).owed (Fin.last _)) : sProp 𝕄)
      = iprop(∃ W, owes (c : Thread nD τ) (0 : CellTallies nD τ sig Unit) W) from by rw [owed_last]; rfl))) $$ HO
    icases HO with ⟨%W, HO⟩
    iexists W
    iexact HO

end Cert.FlashProof

end
-- ==== Proof.Main.lean ====
/-
  The run of the whole program on the four devices: it ends, with the arguments as they were, every semaphore at zero and
  the result holding every step's part.
-/
module

public import proofs.«01_k».proof.Proof.Region

@[expose] public section

noncomputable section

namespace Cert.FlashProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

omit [FloatOps F] [Named F] in
/-- Writing the one block of the result window puts the block's contents at every index. -/
theorem out_write (c : Dev nD) (G X : S8x8x16x128.Idx → Elt F .f32) (i : S8x8x16x128.Idx) [FloatOps F] [Named F] :
    (((cfgc (F := F) c).win 3).blk (pt 7)).view.write (Elt F) G (((cfgc (F := F) c).win 3).cut ((cfgc (F := F) c).grid.coords (pt 7)) X) Finset.univ i = X i := by
  have hi : i = (((cfgc (F := F) c).win 3).blk (pt 7)).view.emb i := by
    funext a; apply Fin.ext
    match a with
    | 0 => show (i 0).val = 0 * _ + 1 * (i 0).val; omega
    | 1 => show (i 1).val = 0 * _ + 1 * (i 1).val; omega
    | 2 => show (i 2).val = 0 * _ + 1 * (i 2).val; omega
    | 3 => show (i 3).val = 0 * _ + 1 * (i 3).val; omega
  refine (congrArg ((((cfgc (F := F) c).win 3).blk (pt 7)).view.write (Elt F) G (((cfgc (F := F) c).win 3).cut ((cfgc (F := F) c).grid.coords (pt 7)) X) Finset.univ) hi).trans ?_
  exact (View.write_emb_of_mem (Val := Elt F) (v := (((cfgc (F := F) c).win 3).blk (pt 7)).view) G (((cfgc (F := F) c).win 3).cut ((cfgc (F := F) c).grid.coords (pt 7)) X) (Finset.mem_univ i)).trans rfl

/-- What the loop leaves in the result's array: every step's part of it. -/
theorem out_has (c : Dev nD) (V : S8x8x16x128.Idx → Elt F .f32) (h : (rdat m c).ArrAt 3 8 V) : Has (sent m) c (upto 7) V := by
  have hs := (rdat m c).ArrAt_succ 3 (pt 7)
  rw [flush_3, decide_eq_true (show (pt 7).val = 7 from rfl), if_pos rfl] at hs
  have h' : (rdat m c).ArrAt 3 ((pt 7).val + 1) V := h
  rw [hs] at h'
  obtain ⟨G, X, -, hL, rfl⟩ := h'
  have hX := leaves_3 m c (pt 7) X hL
  intro j hj k z
  rw [← hX j hj k z]
  exact out_write c G X _

/-- The result's array at the end and the arguments: what the loop's arrays tell. -/
def Told (c : Dev nD) (s : MemSt nD τ sig (Elt F)) : Prop :=
  (∀ w, (rdat m c).ArrAt w 8 (s.mem ((c : Thread nD τ).loc (Pipeline.arrRef spec0 w)))) ∧ s.sem (barCell c) = 0

theorem phinj : Function.Injective (Pipeline.PerCore.cellOf (nD := nD) (τ := τ) (Pipeline.pinD (pcfgs (F := F)) adm)) :=
  Pipeline.PerCore.cellOf_injective (fun c p => Pipeline.pinD (pcfgs (F := F)) adm c p)
    (fun _ p => by obtain rfl := Subsingleton.elim p 0; exact Pipeline.specSemsDistinct_of_nodup _ (semsDistinct 0)) (fun _ p p' h => absurd (Subsingleton.elim p p') h)

/-- The ghost element of the launch. -/
def u₀ : UU :=
  (Rounds.initOf (Pipeline.PerCore.cells (Pipeline.pinD (pcfgs (F := F)) adm) phinj) (Pipeline.PerCore.launchToks (Pipeline.pinD (pcfgs (F := F)) adm) phinj), launched)

/-- The frames of the host lines: the protocol's start and what the device owes. -/
def E (k : Fin 2) (c : Dev nD) : sProp 𝕄 := iprop(start (sent m) c ∗ owes (c : Thread nD τ) (O₀ c) ∅)

def segsOf (c : Dev nD) : List (Pipeline.PerCore.RDat.Seg (pcfgs (F := F)) adm (rdats m) () defs₀ 𝒱₀ L lv) :=
  [.host (seg0 m 𝒱₀ L lv (E m) c), .region (reg m)]

def T₀ (c : Dev nD) : sProp 𝕄 := iprop(StableHlo.held (c : Thread nD τ) (Pipeline.ucRefs τ sig) (V0 m c) ∗ E m 0 c)
def Tₙ (c : Dev nD) : sProp 𝕄 := iprop((rdats m 0 c).arraysAt 8 ∗ semVal (barCell c) 0)

omit [FloatOps F] [Named F] in
theorem unscoped_bar (c : Dev nD) : (unscopedSems0 c : sProp 𝕄) = semVal (barCell c) 0 := by
  unfold unscopedSems0
  rw [bigSep_eq_bigSepL_of_eq [SemLoc.reg barS] (by decide) (by decide)]; rfl

/-- The launch's state, sorted per device. -/
theorem init : iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ dealt (sent m) c)) ∗ levAts L lv)
      ⊢ (|={Set.univ}=> bigSep Finset.univ (T₀ m) : sProp 𝕄) := by
  have hone : ∀ c : Dev nD, iprop(unscopedBufs c (fun b => m ((c.tc : Thread nD τ).loc b)) ∗ unscopedSems0 c
          ∗ owes (c.tc : Thread nD τ) (O₀ c) ∅ ∗ Pipeline.launchCred O₀ c ∗ prngReg c (ρ c) ∗ dealt (sent m) c)
      ⊢ (iprop(iprop(StableHlo.held (c : Thread nD τ) (Pipeline.ucRefs τ sig) (V0 m c) ∗ owes (c.tc : Thread nD τ) (O₀ c) ∅)
        ∗ iprop(semVal (barCell c) 0 ∗ Pipeline.launchCred O₀ c ∗ dealt (sent m) c)) : sProp 𝕄) := fun c => by
    rw [← Pipeline.unscopedBufs_held (Ix := Unit) (Name := ℕ) (U := UU) (Lvl := ℕ) c (V0 m c), unscoped_bar]
    iintro ⟨Hb, Hs, HO, Hc, -, HG⟩
    isplitl [Hb HO]
    · isplitl [Hb] <;> iassumption
    isplitl [Hs]; · iexact Hs
    isplitl [Hc] <;> iassumption
  have hm : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ dealt (sent m) c))
      ⊢ (iprop((bigSep Finset.univ fun c : Dev nD => iprop(StableHlo.held (c : Thread nD τ) (Pipeline.ucRefs τ sig) (V0 m c) ∗ owes (c.tc : Thread nD τ) (O₀ c) ∅))
        ∗ bigSep Finset.univ fun c : Dev nD => iprop(semVal (barCell c) 0 ∗ Pipeline.launchCred O₀ c ∗ dealt (sent m) c)) : sProp 𝕄) := by
    rw [← bigSep_sep']; exact bigSep_mono fun c _ => hone c
  have hT : (iprop((bigSep Finset.univ fun c : Dev nD => iprop(StableHlo.held (c : Thread nD τ) (Pipeline.ucRefs τ sig) (V0 m c) ∗ owes (c.tc : Thread nD τ) (O₀ c) ∅))
      ∗ bigSep Finset.univ (start (sent m))) : sProp 𝕄) ⊢ bigSep Finset.univ (T₀ m) := by
    rw [← bigSep_sep']
    have h1 : ∀ c : Dev nD, (iprop(iprop(StableHlo.held (c : Thread nD τ) (Pipeline.ucRefs τ sig) (V0 m c) ∗ owes (c.tc : Thread nD τ) (O₀ c) ∅) ∗ start (sent m) c) : sProp 𝕄) ⊢ T₀ m c := fun c => by
      unfold T₀ E
      iintro ⟨⟨Hh, HO⟩, Hs⟩
      isplitl [Hh]; · iexact Hh
      isplitl [Hs] <;> iassumption
    exact bigSep_mono fun c _ => h1 c
  iintro ⟨H, Hlev⟩
  ihave H := hm $$ H
  icases H with ⟨HA, HB⟩
  imod (init_all (sent m)) $$ [HB Hlev] with HS
  · isplitl [HB]; · iexact HB
    iexact Hlev
  imodintro
  iapply hT
  isplitl [HA]; · iexact HA
  iexact HS

-- the launch rule's implicit arguments are found by unifying its conclusion with this one, unfolding plain definitions
set_option backward.isDefEq.respectTransparency.types false in
/-- The run: at any float values, from any memory with zero counters, every weakly fair execution of the program on the
    four devices ends, each device's arguments as they were, its result holding every step's part, every counter zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ Has (sent m) c (upto 7) (r.2.mem ((c : Thread nD τ).loc main_v6))) ∧ r.2.sem = fun _ => 0) :=
  Pipeline.PerCore.RDat.θ_run_regions_kit_sems (pcfgs (F := F)) adm (rdats m) () phinj EP defs₀ 𝒱₀ L lv m ρ main (segsOf m)
    (fun c Q => by
      rewrite [main_chain c, Pipeline.PerCore.RDat.Seg.run_eq_chain,
        show (segsOf m c).map Pipeline.PerCore.RDat.Seg.prog = [
          StableHlo.seq (hostOps0 c),
          Prog.lift (.customCall (Pipeline.entry 0) ()) ] from rfl]
      dsimp (config := { failIfUnchanged := false }) only
      exact .rfl)
    (fun c => by simp only [segsOf, Pipeline.PerCore.RDat.Seg.pipes_host, Pipeline.PerCore.RDat.Seg.pipes_region, Pipeline.PerCore.RDat.Seg.pipes_nil]; decide)
    (O₀ := O₀) (hL := L_of_ne) (G := dealt (sent m)) (u₀ := u₀ (F := F))
    (hu₀ := by
      unfold u₀
      iintro Hu
      ihave H := (ownU_pair _ _) $$ Hu
      icases H with ⟨HP, HX⟩
      imod (fund_all (sent m)) $$ HX with HG
      imodintro
      isplitl [HP]; · iexact HP
      iexact HG)
    (T₀ := T₀ m) (Tₙ := Tₙ m)
    (hch := fun c => by
      refine ⟨.rfl, .rfl, ?_⟩
      show iprop((rdats m 0 c).arraysAt 8 ∗ semVal (barCell c) 0 ∗ ∃ W, owes (c : Thread nD τ) (0 : CellTallies nD τ sig Unit) W)
        ⊢ iprop(Tₙ m c ∗ ∃ W, owes (c : Thread nD τ) (0 : CellTallies nD τ sig Unit) W)
      unfold Tₙ
      iintro ⟨Ha, Hz, HO⟩
      isplitr [HO]
      · isplitl [Ha] <;> iassumption
      iexact HO)
    (hinit := init m ρ)
    (QY := Told m)
    (hfin := fun c s' => by
      unfold Tₙ
      iintro ⟨⟨Ha, Hz⟩, HSI⟩
      icombine HSI Hz gives %hz
      ihave H := (Pipeline.PerCore.RDat.arrays_read (pcfgs (F := F)) adm (rdats m) (p := 0) arr_whole0 c 8 s') $$ [Ha HSI]
      · isplitl [Ha] <;> iassumption
      icases H with ⟨%ha, HSI⟩
      imodintro
      isplitr
      · ipureintro
        exact ⟨ha, hz⟩
      iexact HSI)
    (hQ := fun s h hs => ⟨fun c => by
      have hin : ∀ w, ((cfgc (F := F) c).win w).isOut = false → s.mem ((c : Thread nD τ).loc (Pipeline.arrRef spec0 w)) = V1 m c (Pipeline.arrRef spec0 w) := fun w hw => by
        have := (h c).1 w
        rw [(rdat m c).ArrAt_in w hw] at this
        exact this
      exact ⟨(hin 0 rfl).trans (V1_of m c main_arg0 (by decide)), (hin 1 rfl).trans (V1_of m c main_arg1 (by decide)),
        (hin 2 rfl).trans (V1_of m c main_arg2 (by decide)), out_has m c _ ((h c).1 3)⟩,
      sem_eq_zero hs fun c sm _ => by
        obtain rfl : sm = .reg barS := by revert sm; decide
        exact (h c).2⟩)

end Cert.FlashProof

end
-- ==== Proof.Twin.lean ====
/- The kernel and the idealized kernel are one program text but for one named constant. At the machine's float words the name
   is read as the constant's own word, and then their tables of bodies and their @main are equal. -/
module

public import proofs.«01_k».proof.Defs
public import proofs.«01_k».proof.Proof.Gen.Kernel
public import proofs.«01_k».proof.Proof.Gen.KernelIdeal

@[expose] public section

noncomputable section

namespace Cert.FlashProof

open Idealize.ShloMosaic Idealize.SL.Sem

/-- At the machine's words a named constant is its own word. -/
instance wordNamed : Named Bits where
  named _ _ {φ} b := Scalar.ofBits φ b

/-- The kernel body of the two programs is the same. -/
theorem same_body : @Cert.Kernel.cc0__body Bits _ Cert.Kernel.Gen.facts = @Cert.KernelIdeal.cc0__body Bits _ _ Cert.KernelIdeal.Gen.facts := rfl

/-- The table of kernel bodies of the two programs is the same. -/
theorem same_bodies : @Cert.Kernel.defs₀ Bits _ Cert.Kernel.Gen.facts = @Cert.KernelIdeal.defs₀ Bits _ _ Cert.KernelIdeal.Gen.facts := by
  unfold Cert.Kernel.defs₀ Cert.KernelIdeal.defs₀
  refine congrArg Defs.onTc ?_
  funext l a
  match l, a with
  | 0, (t, s) => exact rfl

/-- The whole table of the two programs is the same. -/
theorem same_defs : @Cert.Kernel.defs Bits _ Cert.Kernel.Gen.facts = @Cert.KernelIdeal.defs Bits _ _ Cert.KernelIdeal.Gen.facts :=
  congrArg (Pipeline.defs (Cert.KernelIdeal.pcfgs (F := Bits))) same_bodies

set_option maxHeartbeats 2000000 in
/-- @main of the two programs is the same. -/
theorem same_main : @Cert.Kernel.main Bits _ Cert.Kernel.Gen.facts = @Cert.KernelIdeal.main Bits _ _ Cert.KernelIdeal.Gen.facts := rfl

/-- A run of the idealized kernel at the machine's words is a run of the kernel. -/
theorem same_run (s : MemSt Cert.KernelIdeal.nD Cert.KernelIdeal.τ Cert.KernelIdeal.sig (Elt Bits)) (Q : PUnit × MemSt Cert.KernelIdeal.nD Cert.KernelIdeal.τ Cert.KernelIdeal.sig (Elt Bits) → Prop)
    (h : θ_run (Cert.KernelIdeal.defs (F := Bits)) (onTc (τ := Cert.KernelIdeal.τ) (Cert.KernelIdeal.main (F := Bits))) s Q) :
    θ_run (Cert.Kernel.defs (F := Bits)) (onTc (τ := Cert.Kernel.τ) (Cert.Kernel.main (F := Bits))) s Q := by
  have e := congrArg (fun D => θ_run D (onTc (τ := Cert.KernelIdeal.τ) (Cert.KernelIdeal.main (F := Bits))) s Q) same_defs
  have e' := congrArg (fun M => θ_run (Cert.Kernel.defs (F := Bits)) (onTc (τ := Cert.Kernel.τ) M) s Q) same_main
  exact e'.mpr (e.mpr h)

end Cert.FlashProof

end
-- ==== Proof.Merge.lean ====
/-
  Softmax over two halves of the keys. Each half keeps the maximum of its scores, the sum of the exponentials of the
  scores minus that maximum, and the sum of the values weighed by these exponentials. Putting two halves together by their
  maxima gives the softmax average over all keys. The scores are real numbers; the values are any extended reals.
-/
module

public import Idealize.ShloMosaic.PureOps.Ideal
public import Idealize.ShloMosaic.PureOps.Ideal.Laws

@[expose] public section

noncomputable section

namespace Cert.FlashProof

open Idealize.ShloMosaic

variable {n : ℕ}

/-- The largest score. -/
def peak (s : Fin n → EReal) : EReal := Finset.univ.fold max ⊥ s

/-- The sum of the exponentials of the scores minus `M`. -/
def mass (s : Fin n → EReal) (M : EReal) : EReal := ∑ k, Ideal.exp (s k - M)

/-- The values weighed by the exponentials of the scores minus `M`. -/
def weigh (s v : Fin n → EReal) (M : EReal) : EReal := ∑ k, Ideal.exp (s k - M) * v k

/-- The average of two halves from their maxima, sums and weighed values. -/
def blend (M₀ l₀ o₀ M₁ l₁ o₁ : EReal) : EReal :=
  Ideal.div (Ideal.exp (M₀ - max M₀ M₁) * o₀ + Ideal.exp (M₁ - max M₀ M₁) * o₁)
    (Ideal.exp (M₀ - max M₀ M₁) * l₀ + Ideal.exp (M₁ - max M₀ M₁) * l₁)

/-- Which half is named first does not matter. -/
theorem blend_comm (M₀ l₀ o₀ M₁ l₁ o₁ : EReal) : blend M₀ l₀ o₀ M₁ l₁ o₁ = blend M₁ l₁ o₁ M₀ l₀ o₀ := by
  unfold blend
  rw [max_comm M₁ M₀, add_comm (_ * o₁), add_comm (_ * l₁)]

theorem peak_eq_sup (s : Fin n → EReal) : peak s = Finset.univ.sup s := rfl

theorem le_peak (s : Fin n → EReal) (k : Fin n) : s k ≤ peak s := by
  rw [peak_eq_sup]; exact Finset.le_sup (Finset.mem_univ k)

theorem peak_le (s : Fin n → EReal) (M : EReal) (h : ∀ k, s k ≤ M) : peak s ≤ M := by
  rw [peak_eq_sup]; exact Finset.sup_le fun k _ => h k

/-- The largest of finitely many real scores, at least one, is real. -/
theorem peak_real (s : Fin n → EReal) (hn : 0 < n) (hs : ∀ k, ∃ r : ℝ, s k = r) : ∃ r : ℝ, peak s = r := by
  obtain ⟨k, -, hk⟩ := Finset.exists_mem_eq_sup (Finset.univ : Finset (Fin n)) ⟨⟨0, hn⟩, Finset.mem_univ _⟩ s
  obtain ⟨r, hr⟩ := hs k
  exact ⟨r, by rw [peak_eq_sup, hk, hr]⟩

/-- The largest score over both halves. -/
theorem peak_add (s : Fin (n + n) → EReal) :
    peak s = max (peak fun k : Fin n => s (Fin.castAdd n k)) (peak fun k : Fin n => s (Fin.natAdd n k)) := by
  apply le_antisymm
  · apply peak_le
    intro k
    refine Fin.addCases (fun i => ?_) (fun i => ?_) k
    · exact le_max_of_le_left (le_peak (fun k : Fin n => s (Fin.castAdd n k)) i)
    · exact le_max_of_le_right (le_peak (fun k : Fin n => s (Fin.natAdd n k)) i)
  · exact max_le (peak_le _ _ fun k => le_peak s _) (peak_le _ _ fun k => le_peak s _)

/-- A real factor that is not negative goes into a finite sum of extended reals. -/
theorem mul_sum_real {ι : Type} (t : Finset ι) (a : ℝ) (ha : 0 ≤ a) (f : ι → EReal) :
    (a : EReal) * ∑ i ∈ t, f i = ∑ i ∈ t, (a : EReal) * f i := by
  classical
  induction t using Finset.induction_on with
  | empty => simp
  | insert i t hi ih =>
    rw [Finset.sum_insert hi, Finset.sum_insert hi, EReal.left_distrib_of_nonneg_of_ne_top (EReal.coe_nonneg.2 ha) (EReal.coe_ne_top a), ih]

/-- A finite sum of reals, as an extended real. -/
theorem coe_sum_real {ι : Type} (t : Finset ι) (f : ι → ℝ) : ((∑ i ∈ t, f i : ℝ) : EReal) = ∑ i ∈ t, (f i : EReal) := by
  classical
  induction t using Finset.induction_on with
  | empty => simp
  | insert i t hi ih => rw [Finset.sum_insert hi, Finset.sum_insert hi, EReal.coe_add, ih]

/-- The exponential of a difference of reals. -/
theorem exp_sub_real (a b : ℝ) : Ideal.exp ((a : EReal) - (b : EReal)) = (Real.exp (a - b) : ℝ) := by
  rw [← EReal.coe_sub]; rfl

/-- The weighed values against another maximum. -/
theorem weigh_shift (s v : Fin n → EReal) (hs : ∀ k, ∃ r : ℝ, s k = r) (M m : ℝ) :
    Ideal.exp ((M : EReal) - m) * weigh s v M = weigh s v m := by
  unfold weigh
  rw [exp_sub_real, mul_sum_real _ _ (Real.exp_nonneg _)]
  refine Finset.sum_congr rfl fun k _ => ?_
  obtain ⟨r, hr⟩ := hs k
  rw [hr, exp_sub_real, exp_sub_real, ← mul_assoc, ← EReal.coe_mul, ← Real.exp_add]
  congr 3
  ring

/-- The sum of the exponentials is the weighed value of ones. -/
theorem mass_eq_weigh (s : Fin n → EReal) (M : EReal) : mass s M = weigh s (fun _ => 1) M := by
  unfold mass weigh
  simp only [mul_one]

theorem mass_shift (s : Fin n → EReal) (hs : ∀ k, ∃ r : ℝ, s k = r) (M m : ℝ) :
    Ideal.exp ((M : EReal) - m) * mass s M = mass s m := by
  rw [mass_eq_weigh, mass_eq_weigh, weigh_shift s _ hs]

theorem weigh_add (s v : Fin (n + n) → EReal) (M : EReal) :
    weigh s v M = weigh (fun k : Fin n => s (Fin.castAdd n k)) (fun k => v (Fin.castAdd n k)) M
      + weigh (fun k : Fin n => s (Fin.natAdd n k)) (fun k => v (Fin.natAdd n k)) M := by
  unfold weigh
  rw [Fin.sum_univ_add]

theorem mass_add (s : Fin (n + n) → EReal) (M : EReal) :
    mass s M = mass (fun k : Fin n => s (Fin.castAdd n k)) M + mass (fun k : Fin n => s (Fin.natAdd n k)) M := by
  unfold mass
  rw [Fin.sum_univ_add]

/-- The sum of the exponentials of real scores, at least one, is a positive real. -/
theorem mass_real (s : Fin n → EReal) (hn : 0 < n) (hs : ∀ k, ∃ r : ℝ, s k = r) (M : ℝ) :
    ∃ l : ℝ, 0 < l ∧ mass s M = l := by
  choose r hr using hs
  refine ⟨∑ k, Real.exp (r k - M), ?_, ?_⟩
  · exact Finset.sum_pos (fun k _ => Real.exp_pos _) ⟨⟨0, hn⟩, Finset.mem_univ _⟩
  · unfold mass
    rw [coe_sum_real]
    exact Finset.sum_congr rfl fun k _ => by rw [hr, exp_sub_real]

/-- A quotient by a positive real is a product with its inverse. -/
theorem div_real (x : EReal) (l : ℝ) (hl : 0 < l) : Ideal.div x l = ((l⁻¹ : ℝ) : EReal) * x := by
  unfold Ideal.div
  rw [if_neg (by exact_mod_cast hl.ne'), mul_comm, EReal.coe_inv]

/-- Two halves put together are the average over all keys, each weight divided by the sum of all weights. -/
theorem blend_eq (s v : Fin (n + n) → EReal) (hn : 0 < n) (hs : ∀ k, ∃ r : ℝ, s k = r) :
    blend (peak fun k : Fin n => s (Fin.castAdd n k))
        (mass (fun k : Fin n => s (Fin.castAdd n k)) (peak fun k : Fin n => s (Fin.castAdd n k)))
        (weigh (fun k : Fin n => s (Fin.castAdd n k)) (fun k => v (Fin.castAdd n k)) (peak fun k : Fin n => s (Fin.castAdd n k)))
        (peak fun k : Fin n => s (Fin.natAdd n k))
        (mass (fun k : Fin n => s (Fin.natAdd n k)) (peak fun k : Fin n => s (Fin.natAdd n k)))
        (weigh (fun k : Fin n => s (Fin.natAdd n k)) (fun k => v (Fin.natAdd n k)) (peak fun k : Fin n => s (Fin.natAdd n k)))
      = ∑ k, v k * Ideal.div (Ideal.exp (s k - peak s)) (mass s (peak s)) := by
  have h₀ := fun k : Fin n => hs (Fin.castAdd n k)
  have h₁ := fun k : Fin n => hs (Fin.natAdd n k)
  unfold blend
  rw [← peak_add s]
  obtain ⟨M₀, e₀⟩ := peak_real _ hn h₀
  obtain ⟨M₁, e₁⟩ := peak_real _ hn h₁
  obtain ⟨M, e⟩ := peak_real s (by omega) hs
  rw [e₀, e₁, e, weigh_shift _ _ h₀, weigh_shift _ _ h₁, mass_shift _ h₀, mass_shift _ h₁, ← weigh_add, ← mass_add]
  obtain ⟨l, hl, el⟩ := mass_real s (by omega) hs M
  rw [el, div_real _ _ hl]
  unfold weigh
  rw [mul_sum_real _ _ (by positivity)]
  refine Finset.sum_congr rfl fun k _ => ?_
  rw [div_real _ _ hl, mul_comm (v k), mul_assoc]

end Cert.FlashProof

end
-- ==== Proof.Values.lean ====
/-
  What the kernel computes over the extended reals, entry by entry: the blocks that a step reads, the maximum, the sum and the
  weighed values that it sends, and the merge of two of them.

-/
module

public import proofs.«01_k».proof.Proof.Data
public import proofs.«01_k».proof.Proof.Body
public import proofs.«01_k».proof.Proof.Merge
public import Idealize.ShloMosaic.Lib.Pointwise

@[expose] public section

noncomputable section

namespace Cert.FlashProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- The factor of the scores: one over the square root of 128, the value of the named constant. -/
def factor : EReal := (((Real.sqrt 128)⁻¹ : ℝ) : EReal)

theorem factor_real : ∃ r : ℝ, factor = r := ⟨_, rfl⟩

theorem ninf : Ideal.ofBits .f32 0xFF800000#32 = ⊥ := by
  simp [Ideal.ofBits, Ideal.ieee]

section Payloads
variable (q : Vec Ideal S1x8x8x128 .bf16) (k v : Vec Ideal S1x1024x8x128 .bf16)

/-- The scores of a query of a block against the keys of a block. -/
def score (h i : Fin 8) (t : Fin 1024) : EReal := (∑ x : Fin 128, q (ix4 0 i h x) * k (ix4 0 t h x)) * factor

theorem pay41_apply (h i : Fin 8) (t : Fin 1024) : k0_pay41 q k (ix3 h i t) = score q k h i t := by
  pointwise [k0_pay41]
  rfl

theorem pay42_apply (h i : Fin 8) (z : Fin 1) : k0_pay42 q k (ix3 h i z) = peak (score q k h i) := by
  pointwise [k0_pay42]
  rw [ninf]
  simp only [pay41_apply]
  rfl

theorem pay43_apply (h i : Fin 8) (t : Fin 1024) : k0_pay43 q k (ix3 h i t) = Ideal.exp (score q k h i t - peak (score q k h i)) := by
  pointwise [k0_pay43]
  rw [pay41_apply, pay42_apply]

theorem pay44_apply (h i : Fin 8) (z : Fin 1) : k0_pay44 q k (ix3 h i z) = mass (score q k h i) (peak (score q k h i)) := by
  pointwise [k0_pay44]
  simp only [pay43_apply]
  rfl

theorem pay46_apply (z : Fin 1) (h i : Fin 8) (d : Fin 128) :
    k0_pay46 (k0_pay43 q k) (k0_pay45 v) (ix4 z h i d) = weigh (score q k h i) (fun t => v (ix4 0 t h d)) (peak (score q k h i)) := by
  pointwise [k0_pay46, k0_pay45]
  simp only [pay43_apply]
  rfl

theorem pay47_apply (p : FVec Ideal S8x8x1 .f32) (z z' : Fin 1) (h i : Fin 8) : k0_pay47 p (ix4 z z' h i) = p (ix3 h i 0) := by
  pointwise [k0_pay47]

theorem pay48_apply (p : FVec Ideal S8x8x1 .f32) (z z' : Fin 1) (h i : Fin 8) : k0_pay48 p (ix4 z z' h i) = p (ix3 h i 0) := by
  pointwise [k0_pay48]

theorem merge_apply (a b : Vec Ideal S1x8x8x128 .bf16) (a0 a1 b0 b1 : Vec Ideal S1x1x8x8 .f32) (z : Fin 1) (h i : Fin 8) (d : Fin 128) :
    (mergeFn (F := Ideal)) a a0 a1 b b0 b1 (ix4 z i h d)
      = blend (a0 (ix4 0 0 h i)) (a1 (ix4 0 0 h i)) (a (ix4 0 h i d)) (b0 (ix4 0 0 h i)) (b1 (ix4 0 0 h i)) (b (ix4 0 h i d)) := by
  unfold mergeFn blend
  pointwise [k0_pay24, k0_pay25, k0_pay26, k0_pay27, k0_pay28]

end Payloads

section Blocks
variable (m : (ℓ : Loc nD τ sig) → Buf (Elt Ideal) ℓ)

/-- The batch that device `c` reads at step `j`. -/
def batch (c : Dev nD) (j : Fin 8) : Fin 8 := ⟨4 * (c.val / 2) + j.val / 2, by have : c.val < 4 := c.2; omega⟩
/-- The head of the array that head `h` of step `j`'s blocks is. -/
def headAt (j h : Fin 8) : Fin 16 := ⟨8 * (j.val % 2) + h.val, by omega⟩

theorem qB_apply (c : Dev nD) (j : Fin 8) (z : Fin 1) (i h : Fin 8) (x : Fin 128) :
    qB m c j (ix4 z i h x) = m ((c : Thread nD τ).loc main_arg0) (ix4 (batch c j) i (headAt j h) x) := by
  have e : ∀ a, cc0_transform_0 inb_S1_S1_0 numel1_S1 (tab (F := Ideal) c) (grid0.coords (pt j)) a = ixOf c (grid0.coords (pt j)) a :=
    fun a => congrFun (ix_0 c _) a
  have hc := coords_pt j
  have hz : z.val = 0 := by omega
  refine (congrFun (V1_of m c main_arg0 (by decide)) _).trans ?_
  refine congrArg (m ((c : Thread nD τ).loc main_arg0)) (show ((((cfgc (F := Ideal) c).win 0).blk (pt j)).view.emb (ix4 z i h x) : S8x8x16x128.Idx) = ix4 (batch c j) i (headAt j h) x from ?_)
  refine funext (fun (a : Fin 4) => Fin.ext ?_)
  match a with
  | 0 =>
    show cc0_transform_0 inb_S1_S1_0 numel1_S1 (tab (F := Ideal) c) (grid0.coords (pt j)) 0 * 1 + 1 * z.val = 4 * (c.val / 2) + j.val / 2
    rw [e]; show (4 * (c.val / 2) + (grid0.coords (pt j) 0).val / 2) * 1 + 1 * z.val = _; rw [hc, hz]; omega
  | 1 =>
    show cc0_transform_0 inb_S1_S1_0 numel1_S1 (tab (F := Ideal) c) (grid0.coords (pt j)) 1 * 8 + 1 * i.val = i.val
    rw [e]; show 0 * 8 + 1 * i.val = i.val; omega
  | 2 =>
    show cc0_transform_0 inb_S1_S1_0 numel1_S1 (tab (F := Ideal) c) (grid0.coords (pt j)) 2 * 8 + 1 * h.val = 8 * (j.val % 2) + h.val
    rw [e]; show (grid0.coords (pt j) 0).val % 2 * 8 + 1 * h.val = _; rw [hc]; omega
  | 3 =>
    show cc0_transform_0 inb_S1_S1_0 numel1_S1 (tab (F := Ideal) c) (grid0.coords (pt j)) 3 * 128 + 1 * x.val = x.val
    rw [e]; show 0 * 128 + 1 * x.val = x.val; omega

theorem kB_apply (c : Dev nD) (j : Fin 8) (z : Fin 1) (t : Fin 1024) (h : Fin 8) (x : Fin 128) :
    kB m c j (ix4 z t h x) = m ((c : Thread nD τ).loc main_arg1) (ix4 (batch c j) t (headAt j h) x) := by
  have e : ∀ a, cc0_transform_1 inb_S1_S1_0 numel1_S1 (tab (F := Ideal) c) (grid0.coords (pt j)) a = ixOf c (grid0.coords (pt j)) a :=
    fun a => congrFun (ix_1 c _) a
  have hc := coords_pt j
  have hz : z.val = 0 := by omega
  refine (congrFun (V1_of m c main_arg1 (by decide)) _).trans ?_
  refine congrArg (m ((c : Thread nD τ).loc main_arg1)) (show ((((cfgc (F := Ideal) c).win 1).blk (pt j)).view.emb (ix4 z t h x) : S8x1024x16x128.Idx) = ix4 (batch c j) t (headAt j h) x from ?_)
  refine funext (fun (a : Fin 4) => Fin.ext ?_)
  match a with
  | 0 =>
    show cc0_transform_1 inb_S1_S1_0 numel1_S1 (tab (F := Ideal) c) (grid0.coords (pt j)) 0 * 1 + 1 * z.val = 4 * (c.val / 2) + j.val / 2
    rw [e]; show (4 * (c.val / 2) + (grid0.coords (pt j) 0).val / 2) * 1 + 1 * z.val = _; rw [hc, hz]; omega
  | 1 =>
    show cc0_transform_1 inb_S1_S1_0 numel1_S1 (tab (F := Ideal) c) (grid0.coords (pt j)) 1 * 1024 + 1 * t.val = t.val
    rw [e]; show 0 * 1024 + 1 * t.val = t.val; omega
  | 2 =>
    show cc0_transform_1 inb_S1_S1_0 numel1_S1 (tab (F := Ideal) c) (grid0.coords (pt j)) 2 * 8 + 1 * h.val = 8 * (j.val % 2) + h.val
    rw [e]; show (grid0.coords (pt j) 0).val % 2 * 8 + 1 * h.val = _; rw [hc]; omega
  | 3 =>
    show cc0_transform_1 inb_S1_S1_0 numel1_S1 (tab (F := Ideal) c) (grid0.coords (pt j)) 3 * 128 + 1 * x.val = x.val
    rw [e]; show 0 * 128 + 1 * x.val = x.val; omega

theorem vB_apply (c : Dev nD) (j : Fin 8) (z : Fin 1) (t : Fin 1024) (h : Fin 8) (x : Fin 128) :
    vB m c j (ix4 z t h x) = m ((c : Thread nD τ).loc main_arg2) (ix4 (batch c j) t (headAt j h) x) := by
  have e : ∀ a, cc0_transform_2 inb_S1_S1_0 numel1_S1 (tab (F := Ideal) c) (grid0.coords (pt j)) a = ixOf c (grid0.coords (pt j)) a :=
    fun a => congrFun (ix_2 c _) a
  have hc := coords_pt j
  have hz : z.val = 0 := by omega
  refine (congrFun (V1_of m c main_arg2 (by decide)) _).trans ?_
  refine congrArg (m ((c : Thread nD τ).loc main_arg2)) (show ((((cfgc (F := Ideal) c).win 2).blk (pt j)).view.emb (ix4 z t h x) : S8x1024x16x128.Idx) = ix4 (batch c j) t (headAt j h) x from ?_)
  refine funext (fun (a : Fin 4) => Fin.ext ?_)
  match a with
  | 0 =>
    show cc0_transform_2 inb_S1_S1_0 numel1_S1 (tab (F := Ideal) c) (grid0.coords (pt j)) 0 * 1 + 1 * z.val = 4 * (c.val / 2) + j.val / 2
    rw [e]; show (4 * (c.val / 2) + (grid0.coords (pt j) 0).val / 2) * 1 + 1 * z.val = _; rw [hc, hz]; omega
  | 1 =>
    show cc0_transform_2 inb_S1_S1_0 numel1_S1 (tab (F := Ideal) c) (grid0.coords (pt j)) 1 * 1024 + 1 * t.val = t.val
    rw [e]; show 0 * 1024 + 1 * t.val = t.val; omega
  | 2 =>
    show cc0_transform_2 inb_S1_S1_0 numel1_S1 (tab (F := Ideal) c) (grid0.coords (pt j)) 2 * 8 + 1 * h.val = 8 * (j.val % 2) + h.val
    rw [e]; show (grid0.coords (pt j) 0).val % 2 * 8 + 1 * h.val = _; rw [hc]; omega
  | 3 =>
    show cc0_transform_2 inb_S1_S1_0 numel1_S1 (tab (F := Ideal) c) (grid0.coords (pt j)) 3 * 128 + 1 * x.val = x.val
    rw [e]; show 0 * 128 + 1 * x.val = x.val; omega

/-- The scores that device `d` computes at step `j`, in terms of its arguments. -/
def scoreOf (d : Dev nD) (j h i : Fin 8) (t : Fin 1024) : EReal :=
  (∑ x : Fin 128, (show EReal from m ((d : Thread nD τ).loc main_arg0) (ix4 (batch d j) i (headAt j h) x))
    * (show EReal from m ((d : Thread nD τ).loc main_arg1) (ix4 (batch d j) t (headAt j h) x))) * factor

/-- The values that device `d` weighs at step `j`. -/
def valueOf (d : Dev nD) (j h : Fin 8) (e : Fin 128) (t : Fin 1024) : EReal := m ((d : Thread nD τ).loc main_arg2) (ix4 (batch d j) t (headAt j h) e)

theorem score_blocks (d : Dev nD) (j h i : Fin 8) : score (qB m d j) (kB m d j) h i = scoreOf m d j h i := by
  funext t
  unfold score scoreOf
  simp only [qB_apply, kB_apply]

/-- The merge of two devices' step `j`, entry by entry. -/
theorem mergeOf_apply (d d' : Dev nD) (j : Fin 8) (z : Fin 1) (h i : Fin 8) (e : Fin 128) :
    mergeOf (sent m) mergeFn d d' j (ix4 z i h e)
      = blend (peak (scoreOf m d j h i)) (mass (scoreOf m d j h i) (peak (scoreOf m d j h i)))
          (weigh (scoreOf m d j h i) (valueOf m d j h e) (peak (scoreOf m d j h i)))
          (peak (scoreOf m d' j h i)) (mass (scoreOf m d' j h i) (peak (scoreOf m d' j h i)))
          (weigh (scoreOf m d' j h i) (valueOf m d' j h e) (peak (scoreOf m d' j h i))) := by
  have hv : ∀ d : Dev nD, (fun t => vB m d j (ix4 0 t h e)) = valueOf m d j h e := fun d => funext fun t => vB_apply m d j 0 t h e
  unfold mergeOf
  rw [merge_apply]
  simp only [(sent_by m d j).1, (sent_by m d j).2.1, (sent_by m d j).2.2, (sent_by m d' j).1, (sent_by m d' j).2.1, (sent_by m d' j).2.2,
    pay46_apply, pay47_apply, pay48_apply, pay42_apply, pay44_apply, score_blocks, hv]

end Blocks

end Cert.FlashProof

end
-- ==== Proof.RefValue.lean ====
/-
  The reference over the extended reals, entry by entry: the softmax average over all keys.
-/
module

public import proofs.«01_k».proof.Proof.Gen.ReferenceIdeal
public import proofs.«01_k».proof.Proof.Gen.ReferenceIdeal.Run
public import proofs.«01_k».proof.Proof.Merge
public import Idealize.ShloMosaic.Lib.Pointwise

@[expose] public section

noncomputable section

namespace Cert.FlashProof

open Cert.ReferenceIdeal Cert.ReferenceIdeal.Gen Cert.ReferenceIdeal.Facts Idealize.ShloMosaic

variable (Q : FVec Ideal S8x8x16x128 .bf16) (K V : FVec Ideal S8x2048x16x128 .bf16)

/-- What the reference's run leaves in its result, from its three arguments. -/
def refOut : FVec Ideal S8x8x16x128 .f32 :=
  transpose S8x8x16x128 [0, 3, 1, 2] (Host.dotGeneral dot_S8x2048x16x128_S8x16x8x2048_S8x16x128x8_1_3_3_2_02_01 none (extf .f32 V bitsLt_bf16_f32) (Host.divf (Host.exp (subf (mulf (Host.dotGeneral dot_S8x8x16x128_S8x2048x16x128_S8x16x8x2048_3_3_1_1_02_02 none (extf .f32 Q bitsLt_bf16_f32) (extf .f32 K bitsLt_bf16_f32)) (broadcastInDim S8x16x8x2048 ![] bcast_S_S8x16x8x2048 (id (Host.divf (constant S_ .f32 0x3F800000#32) (Host.sqrt (constant S_ .f32 0x43000000#32)))))) (broadcastInDim S8x16x8x2048 ![0, 1, 2, 3] bcast_S8x16x8x1_S8x16x8x2048_0_1_2_3 (broadcastInDim S8x16x8x1 ![0, 1, 2] bcast_S8x16x8_S8x16x8x1_0_1_2 (Host.reduce FloatOps.maximumf (mulf (Host.dotGeneral dot_S8x8x16x128_S8x2048x16x128_S8x16x8x2048_3_3_1_1_02_02 none (extf .f32 Q bitsLt_bf16_f32) (extf .f32 K bitsLt_bf16_f32)) (broadcastInDim S8x16x8x2048 ![] bcast_S_S8x16x8x2048 (id (Host.divf (constant S_ .f32 0x3F800000#32) (Host.sqrt (constant S_ .f32 0x43000000#32)))))) (constant S_ .f32 0xFF800000#32) reducesTo_S8x16x8x2048_S8x16x8_d3 h_S_))))) (broadcastInDim S8x16x8x2048 ![0, 1, 2, 3] bcast_S8x16x8x1_S8x16x8x2048_0_1_2_3 (broadcastInDim S8x16x8x1 ![0, 1, 2] bcast_S8x16x8_S8x16x8x1_0_1_2 (Host.reduceAdd (Host.exp (subf (mulf (Host.dotGeneral dot_S8x8x16x128_S8x2048x16x128_S8x16x8x2048_3_3_1_1_02_02 none (extf .f32 Q bitsLt_bf16_f32) (extf .f32 K bitsLt_bf16_f32)) (broadcastInDim S8x16x8x2048 ![] bcast_S_S8x16x8x2048 (id (Host.divf (constant S_ .f32 0x3F800000#32) (Host.sqrt (constant S_ .f32 0x43000000#32)))))) (broadcastInDim S8x16x8x2048 ![0, 1, 2, 3] bcast_S8x16x8x1_S8x16x8x2048_0_1_2_3 (broadcastInDim S8x16x8x1 ![0, 1, 2] bcast_S8x16x8_S8x16x8x1_0_1_2 (Host.reduce FloatOps.maximumf (mulf (Host.dotGeneral dot_S8x8x16x128_S8x2048x16x128_S8x16x8x2048_3_3_1_1_02_02 none (extf .f32 Q bitsLt_bf16_f32) (extf .f32 K bitsLt_bf16_f32)) (broadcastInDim S8x16x8x2048 ![] bcast_S_S8x16x8x2048 (id (Host.divf (constant S_ .f32 0x3F800000#32) (Host.sqrt (constant S_ .f32 0x43000000#32)))))) (constant S_ .f32 0xFF800000#32) reducesTo_S8x16x8x2048_S8x16x8_d3 h_S_))))) (constant S_ .f32 0x00000000#32) reducesTo_S8x16x8x2048_S8x16x8_d3 h_S_))))) transposes_S8x16x128x8_S8x8x16x128_0_3_1_2

/-- The factor of the scores that the reference computes: one over the square root of 128. -/
theorem ref_factor : id (Host.divf (constant (F := Ideal) S_ .f32 0x3F800000#32) (Host.sqrt (constant S_ .f32 0x43000000#32))) ix0
    = (((Real.sqrt 128)⁻¹ : ℝ) : EReal) := by
  change Ideal.div (Ideal.ofBits .f32 0x3F800000#32) (Ideal.sqrt (Ideal.ofBits .f32 0x43000000#32)) = _
  have h1 : Ideal.ofBits .f32 0x3F800000#32 = ((1 : ℝ) : EReal) := by simp [Ideal.ofBits, Ideal.ieee, -EReal.coe_mul]; norm_num
  have h2 : Ideal.ofBits .f32 0x43000000#32 = ((128 : ℝ) : EReal) := by simp [Ideal.ofBits, Ideal.ieee, -EReal.coe_mul]; norm_num
  rw [h1, h2, Ideal.sqrt_coe, if_neg (by norm_num), div_real _ _ (Real.sqrt_pos.mpr (by norm_num)), ← EReal.coe_mul, mul_one]

/-- The scores of a query against all keys. -/
def scoreAll (b i : Fin 8) (h : Fin 16) (t : Fin 2048) : EReal :=
  (∑ x : Fin 128, (show EReal from Q (ix4 b i h x)) * (show EReal from K (ix4 b t h x))) * (((Real.sqrt 128)⁻¹ : ℝ) : EReal)

theorem refOut_apply (b i : Fin 8) (h : Fin 16) (e : Fin 128) :
    refOut Q K V (ix4 b i h e)
      = ∑ t, (show EReal from V (ix4 b t h e))
          * Ideal.div (Ideal.exp (scoreAll Q K b i h t - peak (scoreAll Q K b i h))) (mass (scoreAll Q K b i h) (peak (scoreAll Q K b i h))) := by
  pointwise [refOut]
  rw [show Ideal.ofBits .f32 0xFF800000#32 = (⊥ : EReal) by simp [Ideal.ofBits, Ideal.ieee], ref_factor]
  rfl

end Cert.FlashProof

end
-- ==== Proof.Finite.lean ====
/-
  The precondition of the value claim, read: every entry of the queries and of the keys is a real number.
-/
module

public import proofs.«01_k».proof.Defs
public import Idealize.ShloMosaic.Lib.Pointwise
public import Idealize.ShloMosaic.Lib.ReduceAll

@[expose] public section

noncomputable section

namespace Cert.FlashProof

open Cert.Pre_finite_scores_KernelIdeal Idealize.ShloMosaic

/-- An absolute value below infinity is a real's. -/
theorem real_of_abs (x : EReal) (h : max x (-x) < ⊤) : ∃ r : ℝ, x = r := by
  induction x using EReal.rec with
  | bot => simp at h
  | top => simp at h
  | coe r => exact ⟨r, rfl⟩

theorem real_of_below (x : EReal) (h : Ideal.cmp .olt (max x (-x)) (Ideal.ofBits .bf16 0x7F80#16) = 1#1) : ∃ r : ℝ, x = r := by
  apply real_of_abs
  rw [show Ideal.ofBits .bf16 0x7F80#16 = (⊤ : EReal) by simp [Ideal.ofBits, Ideal.ieee]] at h
  by_contra hn
  simp [Ideal.cmp, hn] at h

/-- The side conditions that the precondition states of its shapes, on one device's blocks and on whole arrays. -/
instance factsBlocks : Cert.Pre_finite_scores_KernelIdeal.Facts where
  bcast_S_S8x8x16x128 := by decide
  reducesTo_S8x8x16x128_S_d0_1_2_3 := by decide
  h_S_ := by decide
  bcast_S_S8x1024x16x128 := by decide
  reducesTo_S8x1024x16x128_S_d0_1_2_3 := by decide
instance factsWhole : Cert.Pre_finite_scores_ReferenceIdeal.Facts where
  bcast_S_S8x8x16x128 := by decide
  reducesTo_S8x8x16x128_S_d0_1_2_3 := by decide
  h_S_ := by decide
  bcast_S_S8x2048x16x128 := by decide
  reducesTo_S8x2048x16x128_S_d0_1_2_3 := by decide

theorem finite_of_pre (Q : FVec Ideal S8x8x16x128 .bf16) (K V : FVec Ideal S8x1024x16x128 .bf16) (h : fn Q K V = fun _ => 1#1) :
    (∀ i, ∃ r : ℝ, (show EReal from Q i) = r) ∧ ∀ i, ∃ r : ℝ, (show EReal from K i) = r := by
  have h0 := congrFun h (fun a => a.elim0)
  haveI : Subsingleton S_.Idx := ⟨fun a b => funext fun x => x.elim0⟩
  obtain ⟨hq, hk⟩ := IntOp.andi_eq_one.1 h0
  exact ⟨fun i => real_of_below _ (Host.reduce_andi_all _ _ _ _ _ hq i), fun i => real_of_below _ (Host.reduce_andi_all _ _ _ _ _ hk i)⟩

end Cert.FlashProof

end
-- ==== Proof.Value.lean ====
/-
  The result array that the kernel leaves on a device is the reference's: each entry is the merge of the two devices of one row
  of the mesh, whose keys are the two halves of all keys.

-/
module

public import proofs.«01_k».proof.Proof.Step
public import proofs.«01_k».proof.Proof.Values
public import proofs.«01_k».proof.Proof.RefValue
public import proofs.«01_k».proof.Proof.Finite
public import Idealize.ShloMosaic.Lib.Layout

@[expose] public section

noncomputable section

namespace Cert.FlashProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Where a device's keys are among all keys -/

theorem blk_coord (c : Dev nD) : Layout.meshLin [2, 2] c.val [1] = c.val % 2 := by revert c; decide

/-- Key `t` of device `c`, among all keys. -/
def keyAt (c : Dev nD) (t : Fin 1024) : Fin 2048 := ⟨1024 * (c.val % 2) + t.val, by omega⟩

theorem block_apply (X : (⟨4, ![8, 2048, 16, 128]⟩ : Shape).Idx → EReal) (c : Dev nD) (b : Fin 8) (t : Fin 1024) (h : Fin 16) (x : Fin 128) :
    (show (⟨4, ![8, 1024, 16, 128]⟩ : Shape).Idx → EReal from
        Layout.blockN ⟨4, ![8, 1024, 16, 128]⟩ ⟨4, ![8, 2048, 16, 128]⟩ (Layout.meshBlock [2, 2] ![[], [1], [], []] c) X) (ix4 b t h x)
      = X (ix4 b (keyAt c t) h x) := by
  refine congrArg X (funext fun (a : Fin 4) => Fin.ext ?_)
  match a with
  | 0 => show 0 * 8 + b.val = b.val; omega
  | 1 =>
    show Layout.meshLin [2, 2] c.val [1] * 1024 + t.val = 1024 * (c.val % 2) + t.val
    rw [blk_coord]; omega
  | 2 => show 0 * 16 + h.val = h.val; omega
  | 3 => show 0 * 128 + x.val = x.val; omega

theorem keyAt_even (c : Dev nD) (h : c.val % 2 = 0) (t : Fin 1024) : keyAt c t = Fin.castAdd 1024 t := by
  apply Fin.ext; show 1024 * (c.val % 2) + t.val = t.val; omega
theorem keyAt_odd (c : Dev nD) (h : c.val % 2 = 1) (t : Fin 1024) : keyAt c t = Fin.natAdd 1024 t := by
  apply Fin.ext; show 1024 * (c.val % 2) + t.val = 1024 + t.val; omega

/-! ## A merge is the reference's entry -/

section Assembly
variable (m : (ℓ : Loc nD τ sig) → Buf (Elt Ideal) ℓ)
  (Q : FVec Ideal S8x8x16x128 .bf16) (K V : FVec Ideal (⟨4, ![8, 2048, 16, 128]⟩ : Shape) .bf16)

/-- Every device holds all queries and its half of the keys and values. -/
def Parts : Prop := ∀ c : Dev nD,
  m ((c : Thread nD τ).loc main_arg0) = Q
  ∧ m ((c : Thread nD τ).loc main_arg1) = Layout.blockN ⟨4, ![8, 1024, 16, 128]⟩ ⟨4, ![8, 2048, 16, 128]⟩ (Layout.meshBlock [2, 2] ![[], [1], [], []] c) K
  ∧ m ((c : Thread nD τ).loc main_arg2) = Layout.blockN ⟨4, ![8, 1024, 16, 128]⟩ ⟨4, ![8, 2048, 16, 128]⟩ (Layout.meshBlock [2, 2] ![[], [1], [], []] c) V

/-- Every entry of the queries and keys on every device is real. -/
def Reals : Prop := ∀ c : Dev nD,
  (∀ i, ∃ r : ℝ, (show EReal from m ((c : Thread nD τ).loc main_arg0) i) = r)
  ∧ ∀ i, ∃ r : ℝ, (show EReal from m ((c : Thread nD τ).loc main_arg1) i) = r

variable {m Q K V}

theorem scoreOf_eq (hp : Parts m Q K V) (d : Dev nD) (j h i : Fin 8) (t : Fin 1024) :
    scoreOf m d j h i t = scoreAll Q K (batch d j) i (headAt j h) (keyAt d t) := by
  unfold scoreOf scoreAll factor
  rw [(hp d).1, (hp d).2.1]
  refine congrArg (· * _) (Finset.sum_congr rfl fun x _ => ?_)
  exact congrArg (_ * ·) (block_apply K d _ _ _ _)

theorem valueOf_eq (hp : Parts m Q K V) (d : Dev nD) (j h : Fin 8) (e : Fin 128) (t : Fin 1024) :
    valueOf m d j h e t = V (ix4 (batch d j) (keyAt d t) (headAt j h) e) := by
  unfold valueOf
  rw [(hp d).2.2]
  exact block_apply V d _ _ _ _

/-- Real queries and keys make real scores. -/
theorem scoreOf_real (hr : Reals m) (d : Dev nD) (j h i : Fin 8) (t : Fin 1024) : ∃ r : ℝ, scoreOf m d j h i t = r := by
  obtain ⟨hq, hk⟩ := hr d
  choose q hq using hq
  choose k hk using hk
  obtain ⟨f, hf⟩ := factor_real
  refine ⟨(∑ x : Fin 128, q (ix4 (batch d j) i (headAt j h) x) * k (ix4 (batch d j) t (headAt j h) x)) * f, ?_⟩
  unfold scoreOf
  rw [hf, EReal.coe_mul, coe_sum_real]
  refine congrArg (· * _) (Finset.sum_congr rfl fun x _ => ?_)
  rw [EReal.coe_mul]
  exact congrArg₂ (· * ·) (hq _) (hk _)

/-- The merge of the device with the first half of the keys and the one with the second, in one row of the mesh. -/
theorem merge_ref_even (hp : Parts m Q K V) (hr : Reals m) (d d' : Dev nD) (hd : d.val % 2 = 0) (hd' : d'.val % 2 = 1)
    (j h i : Fin 8) (hb : batch d' j = batch d j) (e : Fin 128) :
    blend (peak (scoreOf m d j h i)) (mass (scoreOf m d j h i) (peak (scoreOf m d j h i)))
        (weigh (scoreOf m d j h i) (valueOf m d j h e) (peak (scoreOf m d j h i)))
        (peak (scoreOf m d' j h i)) (mass (scoreOf m d' j h i) (peak (scoreOf m d' j h i)))
        (weigh (scoreOf m d' j h i) (valueOf m d' j h e) (peak (scoreOf m d' j h i)))
      = refOut Q K V (ix4 (batch d j) i (headAt j h) e) := by
  have s0 : scoreOf m d j h i = fun t : Fin 1024 => scoreAll Q K (batch d j) i (headAt j h) (Fin.castAdd 1024 t) :=
    funext fun t => by rw [scoreOf_eq hp, keyAt_even d hd]
  have s1 : scoreOf m d' j h i = fun t : Fin 1024 => scoreAll Q K (batch d j) i (headAt j h) (Fin.natAdd 1024 t) :=
    funext fun t => by rw [scoreOf_eq hp, keyAt_odd d' hd', hb]
  have v0 : valueOf m d j h e = fun t : Fin 1024 => (show EReal from V (ix4 (batch d j) (Fin.castAdd 1024 t : Fin (1024 + 1024)) (headAt j h) e)) :=
    funext fun t => by rw [valueOf_eq hp, keyAt_even d hd]
  have v1 : valueOf m d' j h e = fun t : Fin 1024 => (show EReal from V (ix4 (batch d j) (Fin.natAdd 1024 t : Fin (1024 + 1024)) (headAt j h) e)) :=
    funext fun t => by rw [valueOf_eq hp, keyAt_odd d' hd', hb]
  rw [refOut_apply]
  have hs : ∀ k : Fin (1024 + 1024), ∃ r : ℝ, scoreAll Q K (batch d j) i (headAt j h) k = r := fun k =>
    Fin.addCases (fun t => by obtain ⟨r, h'⟩ := scoreOf_real hr d j h i t; rw [s0] at h'; exact ⟨r, h'⟩)
      (fun t => by obtain ⟨r, h'⟩ := scoreOf_real hr d' j h i t; rw [s1] at h'; exact ⟨r, h'⟩) k
  rw [s0, s1, v0, v1]
  exact blend_eq (n := 1024) (scoreAll Q K (batch d j) i (headAt j h)) (fun k => V (ix4 (batch d j) k (headAt j h) e)) (by decide) hs

/-- The merge of two devices of one row of the mesh, whichever holds the first half. -/
theorem merge_ref (hp : Parts m Q K V) (hr : Reals m) (d d' : Dev nD) (hrow : d'.val / 2 = d.val / 2) (hcol : d'.val % 2 ≠ d.val % 2)
    (j h i : Fin 8) (z : Fin 1) (e : Fin 128) :
    mergeOf (sent m) mergeFn d d' j (ix4 z i h e) = refOut Q K V (ix4 (batch d j) i (headAt j h) e) := by
  have hb : batch d' j = batch d j := Fin.ext (by show 4 * (d'.val / 2) + j.val / 2 = 4 * (d.val / 2) + j.val / 2; rw [hrow])
  rw [mergeOf_apply]
  rcases Nat.mod_two_eq_zero_or_one d.val with hd | hd
  · exact merge_ref_even hp hr d d' hd (by omega) j h i hb e
  · rw [blend_comm, ← hb]
    exact merge_ref_even hp hr d' d (by omega) hd j h i hb.symm e

theorem own_row : ∀ c : Dev nD, (peer 0 c).val / 2 = c.val / 2 ∧ (peer 0 c).val % 2 ≠ c.val % 2 := by decide
theorem other_row : ∀ c : Dev nD, (peer 2 c).val / 2 = (peer 1 c).val / 2 ∧ (peer 2 c).val % 2 ≠ (peer 1 c).val % 2
    ∧ (peer 1 c).val / 2 = 1 - c.val / 2 := by decide

/-- The whole array that device `c` ends with. -/
theorem out_ref (hp : Parts m Q K V) (hr : Reals m) (c : Dev nD) (W : S8x8x16x128.Idx → Elt Ideal .f32) (hW : Has (sent m) c (upto 7) W) :
    W = refOut Q K V := by
  funext i
  obtain ⟨b, q, H, e, rfl⟩ : ∃ (b q : Fin 8) (H : Fin 16) (e : Fin 128), i = ix4 b q H e :=
    ⟨i 0, i 1, i 2, i 3, funext fun (a : Fin 4) => match a with | 0 => rfl | 1 => rfl | 2 => rfl | 3 => rfl⟩
  let j : Fin 8 := ⟨2 * (b.val % 4) + H.val / 8, by omega⟩
  let h : Fin 8 := ⟨H.val % 8, by omega⟩
  have hj : j.val = 2 * (b.val % 4) + H.val / 8 := rfl
  have hc : c.val < 4 := c.2
  have hH : headAt j h = H := Fin.ext (by show 8 * (j.val % 2) + H.val % 8 = H.val; omega)
  by_cases hx : b.val / 4 = c.val / 2
  · have hb : batch c j = b := Fin.ext (by show 4 * (c.val / 2) + j.val / 2 = b.val; omega)
    have hi : ((outRect c j 0).emb (ix4 0 q h e) : S8x8x16x128.Idx) = ix4 b q H e := funext fun (a : Fin 4) => Fin.ext (by
      match a with
      | 0 => show 4 * (c.val / 2) + j.val / 2 + 1 * 0 = b.val; omega
      | 1 => show 0 + 1 * q.val = q.val; omega
      | 2 => show 8 * (j.val % 2) + 1 * (H.val % 8) = H.val; omega
      | 3 => show 0 + 1 * e.val = e.val; omega)
    rw [← hi, hW j (.inr rfl) 0 (ix4 0 q h e), hi]
    show mergeOf (sent m) mergeFn c (peer 0 c) j (ix4 0 q h e) = _
    rw [merge_ref hp hr c (peer 0 c) (own_row c).1 (own_row c).2, hb, hH]
  · have hb : batch (peer 1 c) j = b := Fin.ext (by
      show 4 * ((peer 1 c).val / 2) + j.val / 2 = b.val
      rw [(other_row c).2.2]; omega)
    have hi : ((outRect c j 1).emb (ix4 0 q h e) : S8x8x16x128.Idx) = ix4 b q H e := funext fun (a : Fin 4) => Fin.ext (by
      match a with
      | 0 => show 4 * (1 - c.val / 2) + j.val / 2 + 1 * 0 = b.val; omega
      | 1 => show 0 + 1 * q.val = q.val; omega
      | 2 => show 8 * (j.val % 2) + 1 * (H.val % 8) = H.val; omega
      | 3 => show 0 + 1 * e.val = e.val; omega)
    rw [← hi, hW j (.inr rfl) 1 (ix4 0 q h e), hi]
    show mergeOf (sent m) mergeFn (peer 1 c) (peer 2 c) j (ix4 0 q h e) = _
    rw [merge_ref hp hr (peer 1 c) (peer 2 c) (other_row c).1 (other_row c).2.1, hb, hH]

end Assembly

end Cert.FlashProof

end
-- ==== Proof.lean ====
/- The claims about the kernel and its reference. The kernel's run (Proof/Main.lean `run_main`) is stated once, over any float
   values, for the idealized kernel, whose text is the kernel's own but for one named constant: both frames are that run
   with the result dropped.
   The reference is host code without semaphores: its frame is its generated run. The value claim is both runs with
   Proof/Value.lean's `out_ref` between their results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Flash
public import proofs.«01_k».proof.Proof.Gen.ReferenceIdeal
public import proofs.«01_k».proof.Proof.Gen.ReferenceIdeal.Run
public import proofs.«01_k».proof.Proof.Main
public import proofs.«01_k».proof.Proof.Twin
public import proofs.«01_k».proof.Proof.Value
public import Idealize.ShloMosaic.Adequacy
public import Idealize.ShloMosaic.Init

@[expose] public section

noncomputable section

namespace Cert.Proof

open Idealize.ShloMosaic Idealize.SL.Sem

/-- The kernel ends with its arguments as they were and every semaphore at zero, at the machine's float words. -/
theorem frame_kernel : Cert.quiescent_Kernel := fun m ρ _ =>
  Cert.FlashProof.same_run ⟨m, fun _ => 0, ρ⟩ _ ((θ_run Cert.KernelIdeal.defs _ _).mono
    (fun _ h => ⟨fun c => ⟨(h.1 c).1, (h.1 c).2.1, (h.1 c).2.2.1⟩, h.2⟩) (Cert.FlashProof.run_main (F := Bits) m ρ))

/-- The same over the extended reals. -/
theorem frame_ideal : Cert.quiescent_KernelIdeal := fun m ρ _ =>
  (θ_run Cert.KernelIdeal.defs _ _).mono (fun _ h => ⟨fun c => ⟨(h.1 c).1, (h.1 c).2.1, (h.1 c).2.2.1⟩, h.2⟩)
    (Cert.FlashProof.run_main (F := Ideal) m ρ)

/-- The reference ends with its arguments as they were; it has no semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The frames of the claims that ask for finite queries and keys: those above, which need nothing of them. -/
theorem frame_ideal_finite : Cert.quiescent_KernelIdeal_pre_finite_scores_KernelIdeal := fun m ρ _ => frame_ideal m ρ trivial
theorem frame_reference_finite : Cert.quiescent_ReferenceIdeal_pre_finite_scores_ReferenceIdeal := fun m ρ _ => frame_reference m ρ trivial

/-- The one constant that the idealized kernel names stands for one over the square root of 128. -/
theorem named : Cert.preserves_Kernel_KernelIdeal := IdealRules.named_const.statement _ _ _ _ _ rfl

/-- Over the extended reals every device ends with the reference's whole result. -/
theorem value : Cert.algebraic_KernelIdeal_ReferenceIdeal_pre_finite_scores_KernelIdeal := fun m ρ m' ρ' hpre hargs => by
  have hr : Cert.FlashProof.Reals m := fun c => Cert.FlashProof.finite_of_pre _ _ _ (hpre c)
  refine ⟨Cert.FlashProof.refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2)), ?_, ?_⟩
  · exact (θ_run Cert.KernelIdeal.defs _ _).mono (fun _ h c => ⟨Cert.FlashProof.out_ref hargs hr c _ (h.1 c).2.2.2, (h.1 c).1, (h.1 c).2.1, (h.1 c).2.2.1⟩)
      (Cert.FlashProof.run_main (F := Ideal) m ρ)
  · exact (θ_run Cert.ReferenceIdeal.defs _ _).mono (fun _ h => h 0) (Cert.ReferenceIdeal.Value.run (F := Ideal) m' ρ')

/-- All claims. -/
theorem claim : Cert.Claim := ⟨Cert.Kernel.Gen.facts, Cert.KernelIdeal.Gen.facts, Cert.ReferenceIdeal.Gen.facts,
  Cert.FlashProof.factsBlocks, Cert.FlashProof.factsWhole,
  frame_kernel, frame_ideal, frame_ideal_finite, frame_reference, frame_reference_finite, named, value⟩

end Cert.Proof

end
